-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S256x4096 : Shape := ⟨2, ![256, 4096]⟩
abbrev S5x2048x1024 : Shape := ⟨3, ![5, 2048, 1024]⟩
abbrev S5 : Shape := ⟨1, ![5]⟩
abbrev S8 : Shape := ⟨1, ![8]⟩
abbrev S16 : Shape := ⟨1, ![16]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256x256 : Shape := ⟨2, ![256, 256]⟩
abbrev S256x2048 : Shape := ⟨2, ![256, 2048]⟩
abbrev S1x2048x1024 : Shape := ⟨3, ![1, 2048, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x8192, .bf16⟩
  | .hbm, ⟨2, _⟩ => ⟨S256x8192, .f32⟩
  | .local _ .vmem, ⟨0, _⟩ => ⟨S4096x256, .bf16⟩
  | .local _ .vmem, ⟨1, _⟩ => ⟨S4096x256, .bf16⟩
  | .local _ .vmem, ⟨2, _⟩ => ⟨S256x4096, .bf16⟩
  | .local _ .vmem, ⟨3, _⟩ => ⟨S256x8192, .f32⟩
  | .local _ .vmem, ⟨4, _⟩ => ⟨S5x2048x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (d0 : Dev nD) (c0_i32_78 : BitVec 32) (c12_i32_79 : BitVec 32) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v_true : BitVec 1 := 1#1
  let v158 : BitVec 32 := Scalar.select v_true c0_i32_78 c12_i32_79
  let v159 : BitVec 32 := Scalar.addi v2 v158
  let c16_i32_80 : BitVec 32 := 16#32
  let v160 : BitVec 32 := Scalar.remsi v159 c16_i32_80
  let c256_i32_81 : BitVec 32 := 256#32
  let v161 : BitVec 32 := Scalar.muli v160 c256_i32_81
  let c8_i32_77 : BitVec 32 := 8#32
  let v157 : BitVec 32 := Scalar.remsi c0_i32_76 c8_i32_77
  let c1024_i32_82 : BitVec 32 := 1024#32
  let v162 : BitVec 32 := Scalar.muli v157 c1024_i32_82
  ![v161.toNat, v162.toNat]
def k0_off1_at (r : Fin 40) : BitVec 32 × BitVec 32 × BitVec 32 :=
  if r.val < 20 then
    if r.val < 10 then
      if r.val < 5 then
        if r.val < 2 then
          if r.val < 1 then
            (0#32, 12#32, 0#32)
          else
            (1#32, 5#32, 0#32)
        else
          if r.val < 3 then
            (15#32, 11#32, 0#32)
          else
            if r.val < 4 then
              (2#32, 6#32, 0#32)
            else
              (14#32, 10#32, 0#32)
      else
        if r.val < 7 then
          if r.val < 6 then
            (3#32, 7#32, 0#32)
          else
            (13#32, 9#32, 0#32)
        else
          if r.val < 8 then
            (4#32, 8#32, 0#32)
          else
            if r.val < 9 then
              (0#32, 12#32, 1#32)
            else
              (1#32, 5#32, 1#32)
    else
      if r.val < 15 then
        if r.val < 12 then
          if r.val < 11 then
            (15#32, 11#32, 1#32)
          else
            (2#32, 6#32, 1#32)
        else
          if r.val < 13 then
            (14#32, 10#32, 1#32)
          else
            if r.val < 14 then
              (3#32, 7#32, 1#32)
            else
              (13#32, 9#32, 1#32)
      else
        if r.val < 17 then
          if r.val < 16 then
            (4#32, 8#32, 1#32)
          else
            (0#32, 12#32, 2#32)
        else
          if r.val < 18 then
            (1#32, 5#32, 2#32)
          else
            if r.val < 19 then
              (15#32, 11#32, 2#32)
            else
              (2#32, 6#32, 2#32)
  else
    if r.val < 30 then
      if r.val < 25 then
        if r.val < 22 then
          if r.val < 21 then
            (14#32, 10#32, 2#32)
          else
            (3#32, 7#32, 2#32)
        else
          if r.val < 23 then
            (13#32, 9#32, 2#32)
          else
            if r.val < 24 then
              (4#32, 8#32, 2#32)
            else
              (0#32, 12#32, 3#32)
      else
        if r.val < 27 then
          if r.val < 26 then
            (1#32, 5#32, 3#32)
          else
            (15#32, 11#32, 3#32)
        else
          if r.val < 28 then
            (2#32, 6#32, 3#32)
          else
            if r.val < 29 then
              (14#32, 10#32, 3#32)
            else
              (3#32, 7#32, 3#32)
    else
      if r.val < 35 then
        if r.val < 32 then
          if r.val < 31 then
            (13#32, 9#32, 3#32)
          else
            (4#32, 8#32, 3#32)
        else
          if r.val < 33 then
            (0#32, 12#32, 4#32)
          else
            if r.val < 34 then
              (1#32, 5#32, 4#32)
            else
              (15#32, 11#32, 4#32)
      else
        if r.val < 37 then
          if r.val < 36 then
            (2#32, 6#32, 4#32)
          else
            (14#32, 10#32, 4#32)
        else
          if r.val < 38 then
            (3#32, 7#32, 4#32)
          else
            if r.val < 39 then
              (13#32, 9#32, 4#32)
            else
              (4#32, 8#32, 4#32)
def k0_dev1 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_485 : BitVec 32 := 1#32
  let v563 : BitVec 32 := Scalar.addi v2 c1_i32_485
  let c16_i32_486 : BitVec 32 := 16#32
  let v564 : BitVec 32 := Scalar.remsi v563 c16_i32_486
  let c1_i32_488 : BitVec 32 := 1#32
  let v565 : BitVec 32 := Scalar.muli v564 c1_i32_488
  let v566 : BitVec 32 := Scalar.addi c0_i32_489 v565
  v566.toNat
def k0_dev2 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_490 : BitVec 32 := 2#32
  let v567 : BitVec 32 := Scalar.addi v2 c2_i32_490
  let c16_i32_491 : BitVec 32 := 16#32
  let v568 : BitVec 32 := Scalar.remsi v567 c16_i32_491
  let c1_i32_493 : BitVec 32 := 1#32
  let v569 : BitVec 32 := Scalar.muli v568 c1_i32_493
  let v570 : BitVec 32 := Scalar.addi c0_i32_494 v569
  v570.toNat
def k0_dev3 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_495 : BitVec 32 := 3#32
  let v571 : BitVec 32 := Scalar.addi v2 c3_i32_495
  let c16_i32_496 : BitVec 32 := 16#32
  let v572 : BitVec 32 := Scalar.remsi v571 c16_i32_496
  let c1_i32_498 : BitVec 32 := 1#32
  let v573 : BitVec 32 := Scalar.muli v572 c1_i32_498
  let v574 : BitVec 32 := Scalar.addi c0_i32_499 v573
  v574.toNat
def k0_dev4 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_500 : BitVec 32 := 4#32
  let v575 : BitVec 32 := Scalar.addi v2 c4_i32_500
  let c16_i32_501 : BitVec 32 := 16#32
  let v576 : BitVec 32 := Scalar.remsi v575 c16_i32_501
  let c1_i32_503 : BitVec 32 := 1#32
  let v577 : BitVec 32 := Scalar.muli v576 c1_i32_503
  let v578 : BitVec 32 := Scalar.addi c0_i32_504 v577
  v578.toNat
def k0_dev5 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_505 : BitVec 32 := 5#32
  let v579 : BitVec 32 := Scalar.addi v2 c5_i32_505
  let c16_i32_506 : BitVec 32 := 16#32
  let v580 : BitVec 32 := Scalar.remsi v579 c16_i32_506
  let c1_i32_508 : BitVec 32 := 1#32
  let v581 : BitVec 32 := Scalar.muli v580 c1_i32_508
  let v582 : BitVec 32 := Scalar.addi c0_i32_509 v581
  v582.toNat
def k0_dev6 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_510 : BitVec 32 := 6#32
  let v583 : BitVec 32 := Scalar.addi v2 c6_i32_510
  let c16_i32_511 : BitVec 32 := 16#32
  let v584 : BitVec 32 := Scalar.remsi v583 c16_i32_511
  let c1_i32_513 : BitVec 32 := 1#32
  let v585 : BitVec 32 := Scalar.muli v584 c1_i32_513
  let v586 : BitVec 32 := Scalar.addi c0_i32_514 v585
  v586.toNat
def k0_dev7 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_515 : BitVec 32 := 7#32
  let v587 : BitVec 32 := Scalar.addi v2 c7_i32_515
  let c16_i32_516 : BitVec 32 := 16#32
  let v588 : BitVec 32 := Scalar.remsi v587 c16_i32_516
  let c1_i32_518 : BitVec 32 := 1#32
  let v589 : BitVec 32 := Scalar.muli v588 c1_i32_518
  let v590 : BitVec 32 := Scalar.addi c0_i32_519 v589
  v590.toNat
def k0_dev8 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_520 : BitVec 32 := 8#32
  let v591 : BitVec 32 := Scalar.addi v2 c8_i32_520
  let c16_i32_521 : BitVec 32 := 16#32
  let v592 : BitVec 32 := Scalar.remsi v591 c16_i32_521
  let c1_i32_523 : BitVec 32 := 1#32
  let v593 : BitVec 32 := Scalar.muli v592 c1_i32_523
  let v594 : BitVec 32 := Scalar.addi c0_i32_524 v593
  v594.toNat
def k0_dev9 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_525 : BitVec 32 := 9#32
  let v595 : BitVec 32 := Scalar.addi v2 c9_i32_525
  let c16_i32_526 : BitVec 32 := 16#32
  let v596 : BitVec 32 := Scalar.remsi v595 c16_i32_526
  let c1_i32_528 : BitVec 32 := 1#32
  let v597 : BitVec 32 := Scalar.muli v596 c1_i32_528
  let v598 : BitVec 32 := Scalar.addi c0_i32_529 v597
  v598.toNat
def k0_dev10 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_530 : BitVec 32 := 10#32
  let v599 : BitVec 32 := Scalar.addi v2 c10_i32_530
  let c16_i32_531 : BitVec 32 := 16#32
  let v600 : BitVec 32 := Scalar.remsi v599 c16_i32_531
  let c1_i32_533 : BitVec 32 := 1#32
  let v601 : BitVec 32 := Scalar.muli v600 c1_i32_533
  let v602 : BitVec 32 := Scalar.addi c0_i32_534 v601
  v602.toNat
def k0_dev11 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_535 : BitVec 32 := 11#32
  let v603 : BitVec 32 := Scalar.addi v2 c11_i32_535
  let c16_i32_536 : BitVec 32 := 16#32
  let v604 : BitVec 32 := Scalar.remsi v603 c16_i32_536
  let c1_i32_538 : BitVec 32 := 1#32
  let v605 : BitVec 32 := Scalar.muli v604 c1_i32_538
  let v606 : BitVec 32 := Scalar.addi c0_i32_539 v605
  v606.toNat
def k0_dev12 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_540 : BitVec 32 := 12#32
  let v607 : BitVec 32 := Scalar.addi v2 c12_i32_540
  let c16_i32_541 : BitVec 32 := 16#32
  let v608 : BitVec 32 := Scalar.remsi v607 c16_i32_541
  let c1_i32_543 : BitVec 32 := 1#32
  let v609 : BitVec 32 := Scalar.muli v608 c1_i32_543
  let v610 : BitVec 32 := Scalar.addi c0_i32_544 v609
  v610.toNat
def k0_dev13 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_545 : BitVec 32 := 13#32
  let v611 : BitVec 32 := Scalar.addi v2 c13_i32_545
  let c16_i32_546 : BitVec 32 := 16#32
  let v612 : BitVec 32 := Scalar.remsi v611 c16_i32_546
  let c1_i32_548 : BitVec 32 := 1#32
  let v613 : BitVec 32 := Scalar.muli v612 c1_i32_548
  let v614 : BitVec 32 := Scalar.addi c0_i32_549 v613
  v614.toNat
def k0_dev14 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_550 : BitVec 32 := 14#32
  let v615 : BitVec 32 := Scalar.addi v2 c14_i32_550
  let c16_i32_551 : BitVec 32 := 16#32
  let v616 : BitVec 32 := Scalar.remsi v615 c16_i32_551
  let c1_i32_553 : BitVec 32 := 1#32
  let v617 : BitVec 32 := Scalar.muli v616 c1_i32_553
  let v618 : BitVec 32 := Scalar.addi c0_i32_554 v617
  v618.toNat
def k0_dev15 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_555 : BitVec 32 := 15#32
  let v619 : BitVec 32 := Scalar.addi v2 c15_i32_555
  let c16_i32_556 : BitVec 32 := 16#32
  let v620 : BitVec 32 := Scalar.remsi v619 c16_i32_556
  let c1_i32_558 : BitVec 32 := 1#32
  let v621 : BitVec 32 := Scalar.muli v620 c1_i32_558
  let v622 : BitVec 32 := Scalar.addi c0_i32_559 v621
  v622.toNat
def k0_off2 (d0 : Dev nD) (c1_i32_566 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v628 : BitVec 32 := Scalar.subi v2 c1_i32_566
  let c16_i32_567 : BitVec 32 := 16#32
  let v629 : BitVec 32 := Scalar.addi v628 c16_i32_567
  let c16_i32_568 : BitVec 32 := 16#32
  let v630 : BitVec 32 := Scalar.remsi v629 c16_i32_568
  let c256_i32_569 : BitVec 32 := 256#32
  let v631 : BitVec 32 := Scalar.muli v630 c256_i32_569
  let c0_i32_576 : BitVec 32 := 0#32
  ![v631.toNat, 0]
def k0_dev16 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_566 : BitVec 32 := 1#32
  let v628 : BitVec 32 := Scalar.subi v2 c1_i32_566
  let c16_i32_567 : BitVec 32 := 16#32
  let v629 : BitVec 32 := Scalar.addi v628 c16_i32_567
  let c16_i32_568 : BitVec 32 := 16#32
  let v630 : BitVec 32 := Scalar.remsi v629 c16_i32_568
  let c1_i32_572 : BitVec 32 := 1#32
  let v632 : BitVec 32 := Scalar.muli v630 c1_i32_572
  let v633 : BitVec 32 := Scalar.addi c0_i32_573 v632
  v633.toNat
def k0_dev17 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_577 : BitVec 32 := 15#32
  let v640 : BitVec 32 := Scalar.subi v2 c15_i32_577
  let c16_i32_578 : BitVec 32 := 16#32
  let v641 : BitVec 32 := Scalar.addi v640 c16_i32_578
  let c16_i32_579 : BitVec 32 := 16#32
  let v642 : BitVec 32 := Scalar.remsi v641 c16_i32_579
  let c1_i32_583 : BitVec 32 := 1#32
  let v644 : BitVec 32 := Scalar.muli v642 c1_i32_583
  let v645 : BitVec 32 := Scalar.addi c0_i32_584 v644
  v645.toNat
def k0_dev18 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_588 : BitVec 32 := 2#32
  let v652 : BitVec 32 := Scalar.subi v2 c2_i32_588
  let c16_i32_589 : BitVec 32 := 16#32
  let v653 : BitVec 32 := Scalar.addi v652 c16_i32_589
  let c16_i32_590 : BitVec 32 := 16#32
  let v654 : BitVec 32 := Scalar.remsi v653 c16_i32_590
  let c1_i32_594 : BitVec 32 := 1#32
  let v656 : BitVec 32 := Scalar.muli v654 c1_i32_594
  let v657 : BitVec 32 := Scalar.addi c0_i32_595 v656
  v657.toNat
def k0_dev19 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_599 : BitVec 32 := 14#32
  let v664 : BitVec 32 := Scalar.subi v2 c14_i32_599
  let c16_i32_600 : BitVec 32 := 16#32
  let v665 : BitVec 32 := Scalar.addi v664 c16_i32_600
  let c16_i32_601 : BitVec 32 := 16#32
  let v666 : BitVec 32 := Scalar.remsi v665 c16_i32_601
  let c1_i32_605 : BitVec 32 := 1#32
  let v668 : BitVec 32 := Scalar.muli v666 c1_i32_605
  let v669 : BitVec 32 := Scalar.addi c0_i32_606 v668
  v669.toNat
def k0_dev20 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_610 : BitVec 32 := 3#32
  let v676 : BitVec 32 := Scalar.subi v2 c3_i32_610
  let c16_i32_611 : BitVec 32 := 16#32
  let v677 : BitVec 32 := Scalar.addi v676 c16_i32_611
  let c16_i32_612 : BitVec 32 := 16#32
  let v678 : BitVec 32 := Scalar.remsi v677 c16_i32_612
  let c1_i32_616 : BitVec 32 := 1#32
  let v680 : BitVec 32 := Scalar.muli v678 c1_i32_616
  let v681 : BitVec 32 := Scalar.addi c0_i32_617 v680
  v681.toNat
def k0_dev21 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_621 : BitVec 32 := 13#32
  let v688 : BitVec 32 := Scalar.subi v2 c13_i32_621
  let c16_i32_622 : BitVec 32 := 16#32
  let v689 : BitVec 32 := Scalar.addi v688 c16_i32_622
  let c16_i32_623 : BitVec 32 := 16#32
  let v690 : BitVec 32 := Scalar.remsi v689 c16_i32_623
  let c1_i32_627 : BitVec 32 := 1#32
  let v692 : BitVec 32 := Scalar.muli v690 c1_i32_627
  let v693 : BitVec 32 := Scalar.addi c0_i32_628 v692
  v693.toNat
def k0_dev22 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_632 : BitVec 32 := 4#32
  let v700 : BitVec 32 := Scalar.subi v2 c4_i32_632
  let c16_i32_633 : BitVec 32 := 16#32
  let v701 : BitVec 32 := Scalar.addi v700 c16_i32_633
  let c16_i32_634 : BitVec 32 := 16#32
  let v702 : BitVec 32 := Scalar.remsi v701 c16_i32_634
  let c1_i32_638 : BitVec 32 := 1#32
  let v704 : BitVec 32 := Scalar.muli v702 c1_i32_638
  let v705 : BitVec 32 := Scalar.addi c0_i32_639 v704
  v705.toNat
def k0_dev23 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_643 : BitVec 32 := 12#32
  let v712 : BitVec 32 := Scalar.subi v2 c12_i32_643
  let c16_i32_644 : BitVec 32 := 16#32
  let v713 : BitVec 32 := Scalar.addi v712 c16_i32_644
  let c16_i32_645 : BitVec 32 := 16#32
  let v714 : BitVec 32 := Scalar.remsi v713 c16_i32_645
  let c1_i32_649 : BitVec 32 := 1#32
  let v716 : BitVec 32 := Scalar.muli v714 c1_i32_649
  let v717 : BitVec 32 := Scalar.addi c0_i32_650 v716
  v717.toNat
def k0_dev24 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_654 : BitVec 32 := 5#32
  let v724 : BitVec 32 := Scalar.subi v2 c5_i32_654
  let c16_i32_655 : BitVec 32 := 16#32
  let v725 : BitVec 32 := Scalar.addi v724 c16_i32_655
  let c16_i32_656 : BitVec 32 := 16#32
  let v726 : BitVec 32 := Scalar.remsi v725 c16_i32_656
  let c1_i32_660 : BitVec 32 := 1#32
  let v728 : BitVec 32 := Scalar.muli v726 c1_i32_660
  let v729 : BitVec 32 := Scalar.addi c0_i32_661 v728
  v729.toNat
def k0_dev25 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_664 : BitVec 32 := 11#32
  let v736 : BitVec 32 := Scalar.subi v2 c11_i32_664
  let c16_i32_665 : BitVec 32 := 16#32
  let v737 : BitVec 32 := Scalar.addi v736 c16_i32_665
  let c16_i32_666 : BitVec 32 := 16#32
  let v738 : BitVec 32 := Scalar.remsi v737 c16_i32_666
  let c1_i32_670 : BitVec 32 := 1#32
  let v740 : BitVec 32 := Scalar.muli v738 c1_i32_670
  let v741 : BitVec 32 := Scalar.addi c0_i32_671 v740
  v741.toNat
def k0_dev26 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_674 : BitVec 32 := 6#32
  let v748 : BitVec 32 := Scalar.subi v2 c6_i32_674
  let c16_i32_675 : BitVec 32 := 16#32
  let v749 : BitVec 32 := Scalar.addi v748 c16_i32_675
  let c16_i32_676 : BitVec 32 := 16#32
  let v750 : BitVec 32 := Scalar.remsi v749 c16_i32_676
  let c1_i32_680 : BitVec 32 := 1#32
  let v752 : BitVec 32 := Scalar.muli v750 c1_i32_680
  let v753 : BitVec 32 := Scalar.addi c0_i32_681 v752
  v753.toNat
def k0_dev27 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_684 : BitVec 32 := 10#32
  let v760 : BitVec 32 := Scalar.subi v2 c10_i32_684
  let c16_i32_685 : BitVec 32 := 16#32
  let v761 : BitVec 32 := Scalar.addi v760 c16_i32_685
  let c16_i32_686 : BitVec 32 := 16#32
  let v762 : BitVec 32 := Scalar.remsi v761 c16_i32_686
  let c1_i32_690 : BitVec 32 := 1#32
  let v764 : BitVec 32 := Scalar.muli v762 c1_i32_690
  let v765 : BitVec 32 := Scalar.addi c0_i32_691 v764
  v765.toNat
def k0_dev28 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_694 : BitVec 32 := 7#32
  let v772 : BitVec 32 := Scalar.subi v2 c7_i32_694
  let c16_i32_695 : BitVec 32 := 16#32
  let v773 : BitVec 32 := Scalar.addi v772 c16_i32_695
  let c16_i32_696 : BitVec 32 := 16#32
  let v774 : BitVec 32 := Scalar.remsi v773 c16_i32_696
  let c1_i32_700 : BitVec 32 := 1#32
  let v776 : BitVec 32 := Scalar.muli v774 c1_i32_700
  let v777 : BitVec 32 := Scalar.addi c0_i32_701 v776
  v777.toNat
def k0_dev29 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_704 : BitVec 32 := 9#32
  let v784 : BitVec 32 := Scalar.subi v2 c9_i32_704
  let c16_i32_705 : BitVec 32 := 16#32
  let v785 : BitVec 32 := Scalar.addi v784 c16_i32_705
  let c16_i32_706 : BitVec 32 := 16#32
  let v786 : BitVec 32 := Scalar.remsi v785 c16_i32_706
  let c1_i32_710 : BitVec 32 := 1#32
  let v788 : BitVec 32 := Scalar.muli v786 c1_i32_710
  let v789 : BitVec 32 := Scalar.addi c0_i32_711 v788
  v789.toNat
def k0_dev30 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_714 : BitVec 32 := 8#32
  let v796 : BitVec 32 := Scalar.subi v2 c8_i32_714
  let c16_i32_715 : BitVec 32 := 16#32
  let v797 : BitVec 32 := Scalar.addi v796 c16_i32_715
  let c16_i32_716 : BitVec 32 := 16#32
  let v798 : BitVec 32 := Scalar.remsi v797 c16_i32_716
  let c1_i32_720 : BitVec 32 := 1#32
  let v800 : BitVec 32 := Scalar.muli v798 c1_i32_720
  let v801 : BitVec 32 := Scalar.addi c0_i32_721 v800
  v801.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_724 : BitVec 32 := 256#32
  let v808 : BitVec 32 := Scalar.muli v2 c256_i32_724
  let v809 : Index := Scalar.indexCast v808
  let c0_725 : Index := 0#32
  ![v809.toNat, 0]
def k0_off4 (d0 : Dev nD) (c1_i32_728 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v814 : BitVec 32 := Scalar.addi v2 c1_i32_728
  let c16_i32_729 : BitVec 32 := 16#32
  let v815 : BitVec 32 := Scalar.remsi v814 c16_i32_729
  let c256_i32_730 : BitVec 32 := 256#32
  let v816 : BitVec 32 := Scalar.muli v815 c256_i32_730
  let c0_i32_738 : BitVec 32 := 0#32
  ![v816.toNat, 0]
def k0_off4_at (r : Fin 7) : BitVec 32 :=
  if r.val < 3 then
    if r.val < 1 then
      1#32
    else
      if r.val < 2 then
        15#32
      else
        2#32
  else
    if r.val < 5 then
      if r.val < 4 then
        14#32
      else
        3#32
    else
      if r.val < 6 then
        13#32
      else
        4#32
def k0_cond2 (i : grid0.Coords) : BitVec 1 :=
  let arg0 : BitVec 32 := BitVec.ofNat 32 (i 0).val
  let c8_i32 : BitVec 32 := 8#32
  let v6 : BitVec 1 := Scalar.cmpi .eq arg0 c8_i32
  let v7 : BitVec 32 := Scalar.extui v6
  let c0_i32_1 : BitVec 32 := 0#32
  let v8 : BitVec 1 := Scalar.cmpi .ne v7 c0_i32_1
  v8

def k0_off5 (d0 : Dev nD) (c12_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v157 : BitVec 32 := Scalar.addi v2 c12_i32_76
  let c16_i32_77 : BitVec 32 := 16#32
  let v158 : BitVec 32 := Scalar.remsi v157 c16_i32_77
  let c256_i32_78 : BitVec 32 := 256#32
  let v159 : BitVec 32 := Scalar.muli v158 c256_i32_78
  let c0_i32_86 : BitVec 32 := 0#32
  ![v159.toNat, 0]
def k0_cond3 (i : grid0.Coords) : BitVec 1 :=
  let arg0 : BitVec 32 := BitVec.ofNat 32 (i 0).val
  let c0_i32_2 : BitVec 32 := 0#32
  let v9 : BitVec 1 := Scalar.cmpi .sgt arg0 c0_i32_2
  let c5_i32 : BitVec 32 := 5#32
  let v10 : BitVec 32 := Scalar.addi arg0 c5_i32
  let c1_i32_3 : BitVec 32 := 1#32
  let v11 : BitVec 32 := Scalar.subi v10 c1_i32_3
  let c16_i32_4 : BitVec 32 := 16#32
  let v12 : BitVec 1 := Scalar.cmpi .slt v11 c16_i32_4
  let v13 : BitVec 1 := Scalar.andi v9 v12
  let v14 : BitVec 32 := Scalar.extui v13
  let c0_i32_5 : BitVec 32 := 0#32
  let v15 : BitVec 1 := Scalar.cmpi .ne v14 c0_i32_5
  v15

def k0_off6 (i : grid0.Coords) : Fin 1 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  ![v159.toNat]
def k0_off7 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c0_i32_135 : BitVec 32 := 0#32
  let c0_i32_136 : BitVec 32 := 0#32
  ![v159.toNat, 0, 0]
def k0_off8 (i : grid0.Coords) (d0 : Dev nD) (c0_i32_88 : BitVec 32) (c12_i32_89 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c0_i32_80 : BitVec 32 := 0#32
  let v161 : BitVec 1 := Scalar.cmpi .sgt v158 c0_i32_80
  let v162 : BitVec 32 := Scalar.extui v161
  let c0_i32_81 : BitVec 32 := 0#32
  let v163 : BitVec 1 := Scalar.cmpi .slt v158 c0_i32_81
  let v164 : BitVec 32 := Scalar.extui v163
  let v165 : BitVec 32 := Scalar.subi v162 v164
  let c8_i32_79 : BitVec 32 := 8#32
  let c0_i32_82 : BitVec 32 := 0#32
  let v166 : BitVec 1 := Scalar.cmpi .sgt c8_i32_79 c0_i32_82
  let v167 : BitVec 32 := Scalar.extui v166
  let c0_i32_83 : BitVec 32 := 0#32
  let v168 : BitVec 1 := Scalar.cmpi .slt c8_i32_79 c0_i32_83
  let v169 : BitVec 32 := Scalar.extui v168
  let v170 : BitVec 32 := Scalar.subi v167 v169
  let v171 : BitVec 1 := Scalar.cmpi .ne v165 v170
  let v172 : BitVec 32 := Scalar.remsi v158 c8_i32_79
  let c0_i32_84 : BitVec 32 := 0#32
  let v173 : BitVec 1 := Scalar.cmpi .ne v172 c0_i32_84
  let v174 : BitVec 1 := Scalar.andi v171 v173
  let v160 : BitVec 32 := Scalar.divsi v158 c8_i32_79
  let c1_i32_85 : BitVec 32 := 1#32
  let v175 : BitVec 32 := Scalar.subi v160 c1_i32_85
  let v176 : BitVec 32 := Scalar.select v174 v175 v160
  let c0_i32_87 : BitVec 32 := 0#32
  let v178 : BitVec 1 := Scalar.cmpi .eq v176 c0_i32_87
  let v179 : BitVec 32 := Scalar.select v178 c0_i32_88 c12_i32_89
  let v180 : BitVec 32 := Scalar.addi v2 v179
  let c16_i32_90 : BitVec 32 := 16#32
  let v181 : BitVec 32 := Scalar.remsi v180 c16_i32_90
  let c256_i32_91 : BitVec 32 := 256#32
  let v182 : BitVec 32 := Scalar.muli v181 c256_i32_91
  let c8_i32_86 : BitVec 32 := 8#32
  let v177 : BitVec 32 := Scalar.remsi v158 c8_i32_86
  let c1024_i32_92 : BitVec 32 := 1024#32
  let v183 : BitVec 32 := Scalar.muli v177 c1024_i32_92
  ![v182.toNat, v183.toNat]
def k0_off8_at (r : Fin 8) : BitVec 32 × BitVec 32 :=
  if r.val < 4 then
    if r.val < 2 then
      if r.val < 1 then
        (0#32, 12#32)
      else
        (1#32, 5#32)
    else
      if r.val < 3 then
        (15#32, 11#32)
      else
        (2#32, 6#32)
  else
    if r.val < 6 then
      if r.val < 5 then
        (14#32, 10#32)
      else
        (3#32, 7#32)
    else
      if r.val < 7 then
        (13#32, 9#32)
      else
        (4#32, 8#32)
def k0_off9 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c256_i32_137 : BitVec 32 := 256#32
  let c0_i32_138 : BitVec 32 := 0#32
  ![v159.toNat, 256, 0]
def k0_off10 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c512_i32_139 : BitVec 32 := 512#32
  let c0_i32_140 : BitVec 32 := 0#32
  ![v159.toNat, 512, 0]
def k0_off11 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c768_i32_141 : BitVec 32 := 768#32
  let c0_i32_142 : BitVec 32 := 0#32
  ![v159.toNat, 768, 0]
def k0_off12 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c1024_i32_143 : BitVec 32 := 1024#32
  let c0_i32_144 : BitVec 32 := 0#32
  ![v159.toNat, 1024, 0]
def k0_off13 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c1280_i32_145 : BitVec 32 := 1280#32
  let c0_i32_146 : BitVec 32 := 0#32
  ![v159.toNat, 1280, 0]
def k0_off14 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c1536_i32_147 : BitVec 32 := 1536#32
  let c0_i32_148 : BitVec 32 := 0#32
  ![v159.toNat, 1536, 0]
def k0_off15 (i : grid0.Coords) : Fin 3 → Nat :=
  let arg0 : BitVec 32 := BitVec.ofNat 32 (i 0).val
  let c5_i32_76 : BitVec 32 := 5#32
  let v157 : BitVec 32 := Scalar.addi arg0 c5_i32_76
  let c1_i32_77 : BitVec 32 := 1#32
  let v158 : BitVec 32 := Scalar.subi v157 c1_i32_77
  let c5_i32_78 : BitVec 32 := 5#32
  let v159 : BitVec 32 := Scalar.remsi v158 c5_i32_78
  let c1792_i32_149 : BitVec 32 := 1792#32
  let c0_i32_150 : BitVec 32 := 0#32
  ![v159.toNat, 1792, 0]
def k0_off16 (i : grid0.Coords) : Fin 1 → Nat :=
  let arg0 : BitVec 32 := BitVec.ofNat 32 (i 0).val
  let c5_i32_6 : BitVec 32 := 5#32
  let v16 : BitVec 32 := Scalar.remsi arg0 c5_i32_6
  ![v16.toNat]
def k0_off17 (i : grid0.Coords) : Fin 3 → Nat :=
  let arg0 : BitVec 32 := BitVec.ofNat 32 (i 0).val
  let c5_i32_6 : BitVec 32 := 5#32
  let v16 : BitVec 32 := Scalar.remsi arg0 c5_i32_6
  let c0_i32_49 : BitVec 32 := 0#32
  let c0_i32_50 : BitVec 32 := 0#32
  ![v16.toNat, 0, 0]
def k0_off18 (i : grid0.Coords) (d0 : Dev nD) (c0_i32_16 : BitVec 32) (c12_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .slt arg0 c0_i32_9
  let v21 : BitVec 32 := Scalar.extui v20
  let v22 : BitVec 32 := Scalar.subi v19 v21
  let c8_i32_7 : BitVec 32 := 8#32
  let c0_i32_10 : BitVec 32 := 0#32
  let v23 : BitVec 1 := Scalar.cmpi .sgt c8_i32_7 c0_i32_10
  let v24 : BitVec 32 := Scalar.extui v23
  let c0_i32_11 : BitVec 32 := 0#32
  let v25 : BitVec 1 := Scalar.cmpi .slt c8_i32_7 c0_i32_11
  let v26 : BitVec 32 := Scalar.extui v25
  let v27 : BitVec 32 := Scalar.subi v24 v26
  let v28 : BitVec 1 := Scalar.cmpi .ne v22 v27
  let v29 : BitVec 32 := Scalar.remsi arg0 c8_i32_7
  let c0_i32_12 : BitVec 32 := 0#32
  let v30 : BitVec 1 := Scalar.cmpi .ne v29 c0_i32_12
  let v31 : BitVec 1 := Scalar.andi v28 v30
  let v17 : BitVec 32 := Scalar.divsi arg0 c8_i32_7
  let c1_i32_13 : BitVec 32 := 1#32
  let v32 : BitVec 32 := Scalar.subi v17 c1_i32_13
  let v33 : BitVec 32 := Scalar.select v31 v32 v17
  let c0_i32_15 : BitVec 32 := 0#32
  let v35 : BitVec 1 := Scalar.cmpi .eq v33 c0_i32_15
  let v36 : BitVec 32 := Scalar.select v35 c0_i32_16 c12_i32
  let v37 : BitVec 32 := Scalar.addi v2 v36
  let c16_i32_17 : BitVec 32 := 16#32
  let v38 : BitVec 32 := Scalar.remsi v37 c16_i32_17
  let c256_i32 : BitVec 32 := 256#32
  let v39 : BitVec 32 := Scalar.muli v38 c256_i32
  let c8_i32_14 : BitVec 32 := 8#32
  let v34 : BitVec 32 := Scalar.remsi arg0 c8_i32_14
  let c1024_i32 : BitVec 32 := 1024#32
  let v40 : BitVec 32 := Scalar.muli v34 c1024_i32
  ![v39.toNat, v40.toNat]
def k0_off18_at (r : Fin 8) : BitVec 32 × BitVec 32 :=
  if r.val < 4 then
    if r.val < 2 then
      if r.val < 1 then
        (0#32, 12#32)
      else
        (1#32, 5#32)
    else
      if r.val < 3 then
        (15#32, 11#32)
      else
        (2#32, 6#32)
  else
    if r.val < 6 then
      if r.val < 5 then
        (14#32, 10#32)
      else
        (3#32, 7#32)
    else
      if r.val < 7 then
        (13#32, 9#32)
      else
        (4#32, 8#32)
def k0_off19 (i : grid0.Coords) : Fin 3 → Nat :=
  let arg0 : BitVec 32 := BitVec.ofNat 32 (i 0).val
  let c5_i32_6 : BitVec 32 := 5#32
  let v16 : BitVec 32 := Scalar.remsi arg0 c5_i32_6
  let c256_i32_51 : BitVec 32 := 256#32
  let c0_i32_52 : BitVec 32 := 0#32
  ![v16.toNat, 256, 0]
def k0_off20 (i : grid0.Coords) : Fin 3 → Nat :=
  let arg0 : BitVec 32 := BitVec.ofNat 32 (i 0).val
  let c5_i32_6 : BitVec 32 := 5#32
  let v16 : BitVec 32 := Scalar.remsi arg0 c5_i32_6
  let c512_i32 : BitVec 32 := 512#32
  let c0_i32_53 : BitVec 32 := 0#32
  ![v16.toNat, 512, 0]
def k0_off21 (i : grid0.Coords) : Fin 3 → Nat :=
  let arg0 : BitVec 32 := BitVec.ofNat 32 (i 0).val
  let c5_i32_6 : BitVec 32 := 5#32
  let v16 : BitVec 32 := Scalar.remsi arg0 c5_i32_6
  let c768_i32 : BitVec 32 := 768#32
  let c0_i32_54 : BitVec 32 := 0#32
  ![v16.toNat, 768, 0]
def k0_off22 (i : grid0.Coords) : Fin 3 → Nat :=
  let arg0 : BitVec 32 := BitVec.ofNat 32 (i 0).val
  let c5_i32_6 : BitVec 32 := 5#32
  let v16 : BitVec 32 := Scalar.remsi arg0 c5_i32_6
  let c1024_i32_55 : BitVec 32 := 1024#32
  let c0_i32_56 : BitVec 32 := 0#32
  ![v16.toNat, 1024, 0]
def k0_off23 (i : grid0.Coords) : Fin 3 → Nat :=
  let arg0 : BitVec 32 := BitVec.ofNat 32 (i 0).val
  let c5_i32_6 : BitVec 32 := 5#32
  let v16 : BitVec 32 := Scalar.remsi arg0 c5_i32_6
  let c1280_i32 : BitVec 32 := 1280#32
  let c0_i32_57 : BitVec 32 := 0#32
  ![v16.toNat, 1280, 0]
def k0_off24 (i : grid0.Coords) : Fin 3 → Nat :=
  let arg0 : BitVec 32 := BitVec.ofNat 32 (i 0).val
  let c5_i32_6 : BitVec 32 := 5#32
  let v16 : BitVec 32 := Scalar.remsi arg0 c5_i32_6
  let c1536_i32 : BitVec 32 := 1536#32
  let c0_i32_58 : BitVec 32 := 0#32
  ![v16.toNat, 1536, 0]
def k0_off25 (i : grid0.Coords) : Fin 3 → Nat :=
  let arg0 : BitVec 32 := BitVec.ofNat 32 (i 0).val
  let c5_i32_6 : BitVec 32 := 5#32
  let v16 : BitVec 32 := Scalar.remsi arg0 c5_i32_6
  let c1792_i32 : BitVec 32 := 1792#32
  let c0_i32_59 : BitVec 32 := 0#32
  ![v16.toNat, 1792, 0]
def k0_off26 (i : grid0.Coords) : Fin 2 → Nat :=
  let c0 : Index := 0#32
  let arg0 : BitVec 32 := BitVec.ofNat 32 (i 0).val
  let c0_i32_61 : BitVec 32 := 0#32
  let v124 : BitVec 1 := Scalar.cmpi .sgt arg0 c0_i32_61
  let v125 : BitVec 32 := Scalar.extui v124
  let c0_i32_62 : BitVec 32 := 0#32
  let v126 : BitVec 1 := Scalar.cmpi .slt arg0 c0_i32_62
  let v127 : BitVec 32 := Scalar.extui v126
  let v128 : BitVec 32 := Scalar.subi v125 v127
  let c8_i32_60 : BitVec 32 := 8#32
  let c0_i32_63 : BitVec 32 := 0#32
  let v129 : BitVec 1 := Scalar.cmpi .sgt c8_i32_60 c0_i32_63
  let v130 : BitVec 32 := Scalar.extui v129
  let c0_i32_64 : BitVec 32 := 0#32
  let v131 : BitVec 1 := Scalar.cmpi .slt c8_i32_60 c0_i32_64
  let v132 : BitVec 32 := Scalar.extui v131
  let v133 : BitVec 32 := Scalar.subi v130 v132
  let v134 : BitVec 1 := Scalar.cmpi .ne v128 v133
  let v135 : BitVec 32 := Scalar.remsi arg0 c8_i32_60
  let c0_i32_65 : BitVec 32 := 0#32
  let v136 : BitVec 1 := Scalar.cmpi .ne v135 c0_i32_65
  let v137 : BitVec 1 := Scalar.andi v134 v136
  let v123 : BitVec 32 := Scalar.divsi arg0 c8_i32_60
  let c1_i32_66 : BitVec 32 := 1#32
  let v138 : BitVec 32 := Scalar.subi v123 c1_i32_66
  let v139 : BitVec 32 := Scalar.select v137 v138 v123
  let c2048_i32 : BitVec 32 := 2048#32
  let v141 : BitVec 32 := Scalar.muli v139 c2048_i32
  let v142 : Index := Scalar.indexCast v141
  ![0, v142.toNat]
def k0_off27 (i : grid0.Coords) : Fin 3 → Nat :=
  let arg0 : BitVec 32 := BitVec.ofNat 32 (i 0).val
  let c5_i32_6 : BitVec 32 := 5#32
  let v16 : BitVec 32 := Scalar.remsi arg0 c5_i32_6
  let v144 : Index := Scalar.indexCast v16
  let c0_68 : Index := 0#32
  let c0_69 : Index := 0#32
  ![v144.toNat, 0, 0]
def k0_cond4 (i : grid0.Coords) : BitVec 1 :=
  let arg0 : BitVec 32 := BitVec.ofNat 32 (i 0).val
  let c8_i32_70 : BitVec 32 := 8#32
  let v148 : BitVec 1 := Scalar.cmpi .slt arg0 c8_i32_70
  let v149 : BitVec 32 := Scalar.extui v148
  let c0_i32_71 : BitVec 32 := 0#32
  let v150 : BitVec 1 := Scalar.cmpi .ne v149 c0_i32_71
  v150

def k0_off28 (i : grid0.Coords) : Fin 2 → Nat :=
  let c0_77 : Index := 0#32
  let arg0 : BitVec 32 := BitVec.ofNat 32 (i 0).val
  let c8_i32_67 : BitVec 32 := 8#32
  let v140 : BitVec 32 := Scalar.remsi arg0 c8_i32_67
  let c1024_i32_76 : BitVec 32 := 1024#32
  let v157 : BitVec 32 := Scalar.muli v140 c1024_i32_76
  let v158 : Index := Scalar.indexCast v157
  ![0, v158.toNat]
def k0_cond5 (i : grid0.Coords) : BitVec 1 :=
  let arg0 : BitVec 32 := BitVec.ofNat 32 (i 0).val
  let c8_i32_72 : BitVec 32 := 8#32
  let v151 : BitVec 1 := Scalar.cmpi .sge arg0 c8_i32_72
  let v152 : BitVec 32 := Scalar.extui v151
  let c0_i32_73 : BitVec 32 := 0#32
  let v153 : BitVec 1 := Scalar.cmpi .ne v152 c0_i32_73
  v153

def k0_off29 (i : grid0.Coords) : Fin 2 → Nat :=
  let c0_77 : Index := 0#32
  let arg0 : BitVec 32 := BitVec.ofNat 32 (i 0).val
  let c8_i32_67 : BitVec 32 := 8#32
  let v140 : BitVec 32 := Scalar.remsi arg0 c8_i32_67
  let c1024_i32_76 : BitVec 32 := 1024#32
  let v157 : BitVec 32 := Scalar.muli v140 c1024_i32_76
  let v158 : Index := Scalar.indexCast v157
  ![0, v158.toNat]
def k0_off30 (i : grid0.Coords) : Fin 1 → Nat :=
  let arg0 : BitVec 32 := BitVec.ofNat 32 (i 0).val
  let c8_i32_67 : BitVec 32 := 8#32
  let v140 : BitVec 32 := Scalar.remsi arg0 c8_i32_67
  ![v140.toNat]
def k0_off31 (i : grid0.Coords) : Fin 2 → Nat :=
  let c0_i32_81 : BitVec 32 := 0#32
  let arg0 : BitVec 32 := BitVec.ofNat 32 (i 0).val
  let c8_i32_67 : BitVec 32 := 8#32
  let v140 : BitVec 32 := Scalar.remsi arg0 c8_i32_67
  let c1024_i32_80 : BitVec 32 := 1024#32
  let v166 : BitVec 32 := Scalar.muli v140 c1024_i32_80
  ![0, v166.toNat]
def k0_cond6 (i : grid0.Coords) : BitVec 1 :=
  let arg0 : BitVec 32 := BitVec.ofNat 32 (i 0).val
  let c15_i32_74 : BitVec 32 := 15#32
  let v154 : BitVec 1 := Scalar.cmpi .eq arg0 c15_i32_74
  let v155 : BitVec 32 := Scalar.extui v154
  let c0_i32_75 : BitVec 32 := 0#32
  let v156 : BitVec 1 := Scalar.cmpi .ne v155 c0_i32_75
  v156

def k0_off32 (d0 : Dev nD) (c1_i32_111 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v189 : BitVec 32 := Scalar.subi v2 c1_i32_111
  let c16_i32_112 : BitVec 32 := 16#32
  let v190 : BitVec 32 := Scalar.addi v189 c16_i32_112
  let c16_i32_113 : BitVec 32 := 16#32
  let v191 : BitVec 32 := Scalar.remsi v190 c16_i32_113
  let c256_i32_114 : BitVec 32 := 256#32
  let v192 : BitVec 32 := Scalar.muli v191 c256_i32_114
  let c0_i32_118 : BitVec 32 := 0#32
  ![v192.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
What every other module of the certificate uses: the order in which a device visits its peers, the device's semaphores
and buffers under short names, the pieces its buffers are cut into, and what each buffer holds once filled.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit
public import Idealize.ShloMosaic.Lib.ValueIdx
public import Idealize.ShloMosaic.Lib.ValueLayout
public import Idealize.ShloMosaic.Lib.Batch
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the exchange's rounds, the local copies' counters -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    ((uEmb (nD := nD) (sig := sig) (Ix := Unit) (Val := Elt F) (Name := ℕ) (U := UU) (Lvl := ℕ)).toEmb)
instance ER_landsIn : (ER (F := F)).LandsIn (upEmb : UEmb _ 𝕄) := by unfold ER; infer_instance

abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The order in which the blocks travel -/

/-- How far round the ring the sender of block `i` stands from the receiver. -/
def perm (i : ℕ) : ℕ := [0, 1, 15, 2, 14, 3, 13, 4, 12, 5, 11, 6, 10, 7, 9, 8].getD i 0
/-- Which block comes from the device standing `d` further round. -/
def pinv (d : ℕ) : ℕ := [0, 1, 3, 5, 7, 9, 11, 13, 15, 14, 12, 10, 8, 6, 4, 2].getD d 0

theorem perm_lt : ∀ i ∈ Finset.Ico 1 16, perm i ∈ Finset.Ico 1 16 := by decide
theorem pinv_lt : ∀ i ∈ Finset.Ico 1 16, pinv i ∈ Finset.Ico 1 16 := by decide
theorem pinv_perm : ∀ i ∈ Finset.Ico 1 16, pinv (perm i) = i := by decide
theorem perm_pinv : ∀ i ∈ Finset.Ico 1 16, perm (pinv i) = i := by decide
theorem perm_lt16 (i : ℕ) : perm i < 16 := by
  by_cases h : i < 16
  · revert h i; decide
  · unfold perm; rw [List.getD_eq_getElem?_getD, List.getElem?_eq_none (by simpa using h)]; decide

/-- The device standing `k` further round. -/
def dev (c : Dev nD) (k : ℕ) : Dev nD := ⟨(c.val + k) % 16, Nat.mod_lt _ (by decide)⟩
theorem dev_val (c : Dev nD) (k : ℕ) : (dev c k).val = (c.val + k) % 16 := rfl
theorem dev_zero (c : Dev nD) : dev c 0 = c := Fin.ext (by have : c.val < 16 := c.isLt; rw [dev_val]; omega)
theorem dev_dev (c : Dev nD) (j k : ℕ) (h : (j + k) % 16 = 0) : dev (dev c j) k = c :=
  Fin.ext (by have : c.val < 16 := c.isLt; rw [dev_val, dev_val]; omega)

/-! ## The semaphores -/

/-- The runtime's barrier semaphore of the kernel's collective id. -/
abbrev barS : Sem sig := (SemArray.scalar (sig.barrier 0 rfl) : Sems sig S_).sem
/-- The semaphore of the weight buffer's slot that chunk `k` uses, of output tile `t`, of sending and of receiving block `i`. -/
def ringS (k : ℕ) : DmaSem sig := ⟨1 + k % 5, by show 1 + k % 5 < 46; omega⟩
def outS (t : ℕ) : DmaSem sig := ⟨6 + t % 8, by show 6 + t % 8 < 46; omega⟩
def sendS (i : ℕ) : DmaSem sig := ⟨14 + i % 16, by show 14 + i % 16 < 46; omega⟩
def recvS (i : ℕ) : DmaSem sig := ⟨30 + i % 16, by show 30 + i % 16 < 46; omega⟩

abbrev barCell (c : Dev nD) : GSem nD τ sig := ((c : Thread nD τ), .reg barS)
abbrev sendCell (c : Dev nD) (i : ℕ) : GSem nD τ sig := ((c : Thread nD τ), .dma (sendS i))
abbrev recvCell (c : Dev nD) (i : ℕ) : GSem nD τ sig := ((c : Thread nD τ), .dma (recvS i))

theorem sendS_val (i : ℕ) : (sendS i).val = 14 + i % 16 := rfl
theorem recvS_val (i : ℕ) : (recvS i).val = 30 + i % 16 := rfl

/-! ## The buffers -/

abbrev wM : Memref sig .tc .hbm S4096x8192 .bf16 := Memref.whole main_arg1
abbrev yM : Memref sig .tc .hbm S256x8192 .f32 := Memref.whole main_v1
abbrev xM : Memref sig .tc .vmem S4096x256 .bf16 := Memref.whole cc0_stg0_0
abbrev xbM : Memref sig .tc .vmem S4096x256 .bf16 := Memref.whole cc0_scratch0
abbrev xgM : Memref sig .tc .vmem S256x4096 .bf16 := Memref.whole cc0_scratch1
abbrev oM : Memref sig .tc .vmem S256x8192 .f32 := Memref.whole cc0_scratch2
abbrev rM : Memref sig .tc .vmem S5x2048x1024 .bf16 := Memref.whole cc0_scratch3

abbrev wL (c : Dev nD) : Loc nD τ sig := (c : Thread nD τ).loc main_arg1
abbrev yL (c : Dev nD) : Loc nD τ sig := (c : Thread nD τ).loc main_v1
abbrev xbL (c : Dev nD) : Loc nD τ sig := (c : Thread nD τ).loc cc0_scratch0
abbrev xgL (c : Dev nD) : Loc nD τ sig := (c : Thread nD τ).loc cc0_scratch1
abbrev oL (c : Dev nD) : Loc nD τ sig := (c : Thread nD τ).loc cc0_scratch2
abbrev rL (c : Dev nD) : Loc nD τ sig := (c : Thread nD τ).loc cc0_scratch3

/-! ### Their pieces -/

/-- The 256 rows of the activations that go to device number `j`. -/
def xbBlk (j : ℕ) : Finset S4096x256.Idx := Finset.univ.filter fun x => (x 0).val / 256 = j
/-- The 256 columns of the gathered activations that block `i` fills. -/
def xgBlk (i : ℕ) : Finset S256x4096.Idx := Finset.univ.filter fun x => (x 1).val / 256 = i
/-- The half `g` of the gathered activations' columns. -/
def xgHalfSet (g : ℕ) : Finset S256x4096.Idx := Finset.univ.filter fun x => (x 1).val / 2048 = g
/-- The 256 rows `r`, of the 1024 columns `t`, of the weights. -/
def wPc (r t : ℕ) : Finset S4096x8192.Idx := Finset.univ.filter fun x => (x 0).val / 256 = r ∧ (x 1).val / 1024 = t
/-- The 1024 columns `t` of the output. -/
def oTl (t : ℕ) : Finset S256x8192.Idx := Finset.univ.filter fun x => (x 1).val / 1024 = t
/-- Slot `k` of the weight buffer, and its 256 rows `j`. -/
def rSl (k : ℕ) : Finset S5x2048x1024.Idx := Finset.univ.filter fun x => (x 0).val = k
def rPc (k j : ℕ) : Finset S5x2048x1024.Idx := Finset.univ.filter fun x => (x 0).val = k ∧ (x 1).val / 256 = j

/-! ### What they hold -/

/-- Device `d`'s activations, and device `c`'s copy of the weights, at launch, by row and column numbers. -/
def X (d : Dev nD) : Vec F S4096x256 .bf16 := m ((d : Thread nD τ).loc main_arg0)
def W (c : Dev nD) : Vec F S4096x8192 .bf16 := m (wL c)
def xat (d : Dev nD) (r k : ℕ) : Elt F .bf16 := X m d (ValueIdx.ix2 (Fin.ofNat 4096 r) (Fin.ofNat 256 k))
def wat (c : Dev nD) (k n : ℕ) : Elt F .bf16 := W m c (ValueIdx.ix2 (Fin.ofNat 4096 k) (Fin.ofNat 8192 n))

/-- The gathered activations of device `c`: column block `i` is its rows of the device that sends block `i`. -/
def xgC (c : Dev nD) : Vec F S256x4096 .bf16 :=
  fun x => xat m (dev c (perm ((x 1).val / 256))) (c.val * 256 + (x 0).val) ((x 1).val % 256)
/-- Which 256 rows of the weights piece `j` of chunk `ch` is, on device `c`. -/
def wrow (c : Dev nD) (ch j : ℕ) : ℕ := (c.val + perm (8 * (ch / 8) + j)) % 16
/-- A slot of the weight buffer with chunk `ch` in it. -/
def rC (c : Dev nD) (ch : ℕ) : Vec F S5x2048x1024 .bf16 :=
  fun x => wat m c (wrow c ch ((x 1).val / 256) * 256 + (x 1).val % 256) ((ch % 8) * 1024 + (x 2).val)

/-- What the product of chunk `ch` reads: half `g` of the gathered activations, and the chunk. -/
def xh (c : Dev nD) (g : ℕ) : Vec F S256x2048 .bf16 := fun y => xgC m c (ValueIdx.ix2 (y 0) (Fin.ofNat 4096 (g * 2048 + (y 1).val)))
def wc (c : Dev nD) (ch : ℕ) : Vec F S1x2048x1024 .bf16 := fun y => rC m c ch (ValueIdx.ix3 (0 : Fin 5) (y 1) (y 2))
/-- Output tile `t` after the first half and after the second. -/
def tile1 (c : Dev nD) (t : ℕ) : Vec F S256x1024 .f32 := k0_pay2 (xh m c 0) (wc m c t)
def tile2 (c : Dev nD) (t : ℕ) : Vec F S256x1024 .f32 := k0_pay3 (xh m c 1) (wc m c (t + 8)) (tile1 m c t)
/-- The accumulator with every tile after the first half, and after the second. -/
def oC1 (c : Dev nD) : Vec F S256x8192 .f32 := fun x => tile1 m c ((x 1).val / 1024) (ValueIdx.ix2 (x 0) (Fin.ofNat 1024 (x 1).val))
def oC2 (c : Dev nD) : Vec F S256x8192 .f32 := fun x => tile2 m c ((x 1).val / 1024) (ValueIdx.ix2 (x 0) (Fin.ofNat 1024 (x 1).val))

end Cert.KernelIdealProof

end
-- ==== Proof.Views.lean ====
/-
The memrefs the kernel slices, as the pieces of their buffers; and what each copy, load and store moves.
-/
module

public import proofs.«01_k».proof.Proof.Common

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI

variable {F : FTy → Type} [FloatOps F]
variable (m : (ℓ : Loc nD τ sig) → Buf (Elt F) ℓ)

/-- A block of a whole buffer is the indices between its corners. -/
theorem slice_mem (b : Ref sig .tc) (off size : Fin b.ty.shape.rank → Nat) (inb) (i : b.ty.shape.Idx) :
    i ∈ ((View.whole b).slice (Rect.unit off size inb)).set ↔ ∀ a, off a ≤ (i a).val ∧ (i a).val < off a + size a := by
  exact ValueKit.mem_set_slice_whole_iff b _ i Rect.mem_set_unit

/-- A whole view written with what another reads holds `G` on its set, when `G` agrees with that at every index. -/
theorem write_read {sp sp' : Space} {s : Shape} {e : EltTy} (dst : View sig .tc sp s e) (src : View sig .tc sp' s e)
    (fd : dst.ty.Contents (Elt F)) (fs : src.ty.Contents (Elt F)) (G : dst.ty.Contents (Elt F))
    (h : ∀ y, _root_.cast (congrArg (Elt F) dst.elt_eq.symm) (src.read (Elt F) fs y) = G (dst.emb y)) :
    ∀ i ∈ dst.set, dst.write (Elt F) fd (src.read (Elt F) fs) Finset.univ i = G i := by
  intro i hi
  obtain ⟨y, -, rfl⟩ := Finset.mem_map.mp hi
  rw [View.write_emb_of_mem _ _ (Finset.mem_univ _), h]

/-! ## The pieces -/

abbrev xbSl (off : Fin 2 → Nat) (inb : ∀ a, off a + S256x256.size a ≤ S4096x256.size a) : Memref sig .tc .vmem S256x256 .bf16 :=
  xbM.slice (Rect.unit (s := S4096x256) off S256x256.size inb) (fun _ => rfl)
abbrev xgSl (off : Fin 2 → Nat) (inb : ∀ a, off a + S256x256.size a ≤ S256x4096.size a) : Memref sig .tc .vmem S256x256 .bf16 :=
  xgM.slice (Rect.unit (s := S256x4096) off S256x256.size inb) (fun _ => rfl)
abbrev wSl (off : Fin 2 → Nat) (inb : ∀ a, off a + S256x1024.size a ≤ S4096x8192.size a) : Memref sig .tc .hbm S256x1024 .bf16 :=
  wM.slice (Rect.unit (s := S4096x8192) off S256x1024.size inb) (fun _ => rfl)
abbrev oSl (off : Fin 2 → Nat) (inb : ∀ a, off a + S256x1024.size a ≤ S256x8192.size a) : Memref sig .tc .vmem S256x1024 .f32 :=
  oM.slice (Rect.unit (s := S256x8192) off S256x1024.size inb) (fun _ => rfl)
abbrev ySl (off : Fin 2 → Nat) (inb : ∀ a, off a + S256x1024.size a ≤ S256x8192.size a) : Memref sig .tc .hbm S256x1024 .f32 :=
  yM.slice (Rect.unit (s := S256x8192) off S256x1024.size inb) (fun _ => rfl)
abbrev rSq (off : Fin 3 → Nat) (inb : ∀ a, off a + S1x256x1024.size a ≤ S5x2048x1024.size a) : Memref sig .tc .vmem S256x1024 .bf16 :=
  (rM.slice (Rect.unit (s := S5x2048x1024) off S1x256x1024.size inb) (fun _ => rfl)).squeeze S256x1024 squeezes_S1x256x1024_S256x1024

theorem xb_set {off : Fin 2 → Nat} {inb} {j : ℕ} (h : off = ![256 * j, 0]) : (xbSl off inb).view.set = xbBlk j := by
  subst h; ext i
  refine (slice_mem cc0_scratch0 _ _ _ i).trans ?_
  have h1 : (i 1).val < 256 := (i 1).isLt
  simp only [xbBlk, Finset.mem_filter, Finset.mem_univ, true_and]
  constructor
  · intro H; have := H 0; simp at this; omega
  · intro H a; fin_cases a <;> simp <;> omega

theorem xg_set {off : Fin 2 → Nat} {inb} {j : ℕ} (h : off = ![0, 256 * j]) : (xgSl off inb).view.set = xgBlk j := by
  subst h; ext i
  refine (slice_mem cc0_scratch1 _ _ _ i).trans ?_
  have h1 : (i 0).val < 256 := (i 0).isLt
  simp only [xgBlk, Finset.mem_filter, Finset.mem_univ, true_and]
  constructor
  · intro H; have := H 1; simp at this; omega
  · intro H a; fin_cases a <;> simp <;> omega

theorem w_set {off : Fin 2 → Nat} {inb} {r t : ℕ} (h : off = ![256 * r, 1024 * t]) : (wSl off inb).view.set = wPc r t := by
  subst h; ext i
  refine (slice_mem main_arg1 _ _ _ i).trans ?_
  simp only [wPc, Finset.mem_filter, Finset.mem_univ, true_and]
  constructor
  · intro H; have := H 0; have := H 1; simp at *; omega
  · intro H a; fin_cases a <;> simp <;> omega

theorem o_set {off : Fin 2 → Nat} {inb} {t : ℕ} (h : off = ![0, 1024 * t]) : (oSl off inb).view.set = oTl t := by
  subst h; ext i
  refine (slice_mem cc0_scratch2 _ _ _ i).trans ?_
  have h1 : (i 0).val < 256 := (i 0).isLt
  simp only [oTl, Finset.mem_filter, Finset.mem_univ, true_and]
  constructor
  · intro H; have := H 1; simp at *; omega
  · intro H a; fin_cases a <;> simp <;> omega

theorem y_set {off : Fin 2 → Nat} {inb} {t : ℕ} (h : off = ![0, 1024 * t]) : (ySl off inb).view.set = oTl t := by
  subst h; ext i
  refine (slice_mem main_v1 _ _ _ i).trans ?_
  have h1 : (i 0).val < 256 := (i 0).isLt
  simp only [oTl, Finset.mem_filter, Finset.mem_univ, true_and]
  constructor
  · intro H; have := H 1; simp at *; omega
  · intro H a; fin_cases a <;> simp <;> omega

theorem r_set {off : Fin 3 → Nat} {inb} {k j : ℕ} (h : off = ![k, 256 * j, 0]) : (rSq off inb).view.set = rPc k j := by
  subst h; ext i
  refine (iff_of_eq (congrArg (i ∈ ·) (View.set_reshape _ _))).trans ?_
  refine (slice_mem cc0_scratch3 _ _ _ i).trans ?_
  have h1 : (i 2).val < 1024 := (i 2).isLt
  simp only [rPc, Finset.mem_filter, Finset.mem_univ, true_and]
  constructor
  · intro H; have := H 0; have := H 1; simp at *; omega
  · intro H a; fin_cases a <;> simp <;> omega

/-! ## What the copies move -/

/-- Chunk `ch`'s piece `j`: the 256 rows of the weights it names, into its slot. -/
theorem copy_w (c : Dev nD) (ch k j : ℕ) (hj : j < 8) {off : Fin 2 → Nat} {inb} {off' : Fin 3 → Nat} {inb'}
    (h : off = ![256 * wrow c ch j, 1024 * (ch % 8)]) (h' : off' = ![k, 256 * j, 0]) (fd : Vec F S5x2048x1024 .bf16) :
    ∀ i ∈ (rSq off' inb').view.set,
      (rSq off' inb').view.write (Elt F) fd ((wSl off inb).view.read (Elt F) (W m c)) Finset.univ i = rC m c ch i := by
  subst h h'
  refine write_read _ _ _ _ _ fun y => ?_
  have e0 : (y 0).val < 256 := (y 0).isLt
  have e1 : (y 1).val < 1024 := (y 1).isLt
  have hr : Shape.reshapeEquiv squeezes_S1x256x1024_S256x1024.numel_eq y = ValueIdx.ix3 (0 : Fin 1) (y 0) (y 1) := by
    conv_lhs => rw [ValueIdx.eq_ix2 y]
    exact ValueIdx.reshapeEquiv_ix2_1ab _ _ _
  have hw : wrow c ch j < 16 := Nat.mod_lt _ (by decide)
  show W m c _ = rC m c ch _
  unfold rC wat
  congr 1
  have c1 : (((rSq ![k, 256 * j, 0] inb').view.emb y) 1).val = 256 * j + (y 0).val := by
    show 256 * j + 1 * ((Shape.reshapeEquiv squeezes_S1x256x1024_S256x1024.numel_eq y) 1).val = _
    rw [hr]; show 256 * j + 1 * (y 0).val = _; omega
  have c2 : (((rSq ![k, 256 * j, 0] inb').view.emb y) 2).val = (y 1).val := by
    show 0 + 1 * ((Shape.reshapeEquiv squeezes_S1x256x1024_S256x1024.numel_eq y) 2).val = _
    rw [hr]; show 0 + 1 * (y 1).val = _; omega
  rw [c1, c2, show (256 * j + (y 0).val) / 256 = j by omega, show (256 * j + (y 0).val) % 256 = (y 0).val by omega]
  funext a
  fin_cases a
  · refine Fin.ext ?_
    show 256 * wrow c ch j + 1 * (y 0).val = (wrow c ch j * 256 + (y 0).val) % 4096
    omega
  · refine Fin.ext ?_
    show 1024 * (ch % 8) + 1 * (y 1).val = (ch % 8 * 1024 + (y 1).val) % 8192
    omega

/-- Block `i` of device `e`: the rows of device `c`'s activations that are `e`'s, into column block `i`. -/
theorem copy_x (c e : Dev nD) (i : ℕ) (hi : i < 16) (he : dev e (perm i) = c) {off : Fin 2 → Nat} {inb} {off' : Fin 2 → Nat} {inb'}
    (h : off = ![256 * e.val, 0]) (h' : off' = ![0, 256 * i]) (fd : Vec F S256x4096 .bf16) :
    ∀ x ∈ (xgSl off' inb').view.set,
      (xgSl off' inb').view.write (Elt F) fd ((xbSl off inb).view.read (Elt F) (X m c)) Finset.univ x = xgC m e x := by
  subst h h'
  refine write_read _ _ _ _ _ fun y => ?_
  have e0 : (y 0).val < 256 := (y 0).isLt
  have e1 : (y 1).val < 256 := (y 1).isLt
  have hw : e.val < 16 := e.isLt
  show X m c _ = xgC m e _
  unfold xgC xat
  have c0 : (((xgSl ![0, 256 * i] inb').view.emb y) 0).val = (y 0).val := by
    show 0 + 1 * (y 0).val = _; omega
  have c1 : (((xgSl ![0, 256 * i] inb').view.emb y) 1).val = 256 * i + (y 1).val := by
    show 256 * i + 1 * (y 1).val = _; omega
  rw [c0, c1, show (256 * i + (y 1).val) / 256 = i by omega, show (256 * i + (y 1).val) % 256 = (y 1).val by omega, he]
  congr 1
  funext a
  fin_cases a
  · refine Fin.ext ?_
    show 256 * e.val + 1 * (y 0).val = (e.val * 256 + (y 0).val) % 4096
    omega
  · refine Fin.ext ?_
    show 0 + 1 * (y 1).val = (y 1).val % 256
    omega

/-- An output tile, out of the accumulator. -/
theorem copy_o (G : Vec F S256x8192 .f32) {off : Fin 2 → Nat} {inb} {inb'} (fd : Vec F S256x8192 .f32) :
    ∀ x ∈ (ySl off inb').view.set,
      (ySl off inb').view.write (Elt F) fd ((oSl off inb).view.read (Elt F) G) Finset.univ x = G x :=
  write_read _ _ _ _ _ fun y => rfl

end Cert.KernelIdealProof

end
-- ==== Proof.Sched.lean ====
/-
The exchange's schedule. On each device:

* the barrier semaphore is waited on once, for 15: the device `d` places behind pays one unit as duty `d` of the device it
  names, and hands over, unfilled, the column block of its own gather buffer that the named device will fill;
* the receive semaphore of block `i` is waited on once, for the block's credit, paid by the copy of the device that sends
  block `i`: it hands over column block `i`, holding that device's activations at the receiver's rows;
* the send semaphore of block `i` is waited on once, for the same credit, paid by the device's own copy: it hands the copied
  rows of its activations back.

Each has one round. Everything else on the device is a copy of its own.
-/
module

public import proofs.«01_k».proof.Proof.Views

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device that block `i` of device `c` goes to. -/
def dst (c : Dev nD) (i : ℕ) : Dev nD := dev c (16 - perm i)

theorem dev_dst (c : Dev nD) (i : ℕ) : dev (dst c i) (perm i) = c := by
  have := perm_lt16 i
  exact dev_dev c _ _ (by omega)
theorem dst_dev (c : Dev nD) (i : ℕ) : dst (dev c (perm i)) i = c := by
  have := perm_lt16 i
  exact dev_dev c _ _ (by omega)

/-- The credit of one block, 256 by 256. -/
abbrev N : ℕ := (xgSl ![0, 0] inb_S256x4096_S256x256_0_0).view.dmaCredit
theorem N_pos : 0 < N := View.dmaCredit_pos _ (by decide)

/-! ## What each semaphore hands over -/

def barPay (e : Dev nD) (d : ℕ) : sProp 𝕄 := iprop(∃ f, xgL (dev e (16 - d)) ↦[xgBlk (pinv d)]{fullShare} f)
def recvPay (c : Dev nD) (i : ℕ) : sProp 𝕄 := xgL c ↦[xgBlk i]{fullShare} xgC m c
def sendPay (c : Dev nD) (i : ℕ) : sProp 𝕄 := xbL c ↦[xbBlk (dst c i).val]{fullShare} X m c

instance barPay_storable (e : Dev nD) (d : ℕ) : BI.Storable (upEmb : UEmb _ 𝕄) (barPay (F := F) e d) := by unfold barPay; infer_instance
instance recvPay_storable (c : Dev nD) (i : ℕ) : BI.Storable (upEmb : UEmb _ 𝕄) (recvPay m c i) := by unfold recvPay; infer_instance
instance sendPay_storable (c : Dev nD) (i : ℕ) : BI.Storable (upEmb : UEmb _ 𝕄) (sendPay m c i) := by unfold sendPay; infer_instance

def dutiesOf : SemLoc sig → Finset ℕ
  | .reg _ => Finset.Ico 1 16
  | .dma q => if 30 < q.val ∨ (14 < q.val ∧ q.val < 30) then {0} else ∅
def amountOf' : SemLoc sig → ℕ
  | .reg _ => 1
  | .dma _ => N
def payOf (c : Dev nD) (d : ℕ) : SemLoc sig → sProp 𝕄
  | .reg _ => barPay c d
  | .dma q => if 30 ≤ q.val then recvPay m c (q.val - 30) else sendPay m c (q.val - 14)

def Rd : Rounds.Schedule (GSem nD τ sig) ℕ 𝕄 where
  duties g r := if r = 0 ∧ g.1.2 = .tc then dutiesOf g.2 else ∅
  unitless _ := False
  amount g _ _ := amountOf' g.2
  payload g _ d := payOf m g.1.1 d g.2
  amount_pos g _ _ _ := by
    cases g.2 with
    | reg _ => exact Nat.one_pos
    | dma _ => exact N_pos

instance Rd_payload_storable (g : GSem nD τ sig) (r : ℕ) (d : ℕ) : BI.Storable (upEmb : UEmb _ 𝕄) ((Rd m).payload g r d) := by
  show BI.Storable upEmb (payOf m g.1.1 d g.2)
  cases g.2 with
  | reg _ => unfold payOf; infer_instance
  | dma _ => unfold payOf; dsimp only; split <;> infer_instance

section Facts
variable (c : Dev nD)

theorem duties_bar : (Rd m).duties (barCell c) 0 = Finset.Ico 1 16 := by dsimp only [Rd]; exact if_pos ⟨rfl, rfl⟩
theorem duties_send {i : ℕ} (hi : i ∈ Finset.Ico 1 16) : (Rd m).duties (sendCell c i) 0 = {0} := by
  rw [Finset.mem_Ico] at hi
  dsimp only [Rd, dutiesOf]; rw [if_pos ⟨rfl, rfl⟩, if_pos]
  rw [sendS_val]; omega
theorem duties_recv {i : ℕ} (hi : i ∈ Finset.Ico 1 16) : (Rd m).duties (recvCell c i) 0 = {0} := by
  rw [Finset.mem_Ico] at hi
  dsimp only [Rd, dutiesOf]; rw [if_pos ⟨rfl, rfl⟩, if_pos]
  rw [recvS_val]; omega
theorem duties_later (g : GSem nD τ sig) : ∀ r, 0 + 1 ≤ r → (Rd m).duties g r = ∅ :=
  fun r hr => by dsimp only [Rd]; rw [if_neg fun h => by omega]

theorem amount_bar (d : ℕ) : (Rd m).amount (barCell c) 0 d = 1 := rfl
theorem amount_send (i d : ℕ) : (Rd m).amount (sendCell c i) 0 d = N := rfl
theorem amount_recv (i d : ℕ) : (Rd m).amount (recvCell c i) 0 d = N := rfl

theorem expect_bar : (Rd m).expect (barCell c) 0 = 15 := by
  unfold Schedule.expect Schedule.amountOf
  rw [duties_bar, Finset.sum_congr rfl fun d _ => amount_bar m c d, Finset.sum_const]; rfl
theorem expect_send {i : ℕ} (hi : i ∈ Finset.Ico 1 16) : (Rd m).expect (sendCell c i) 0 = N := by
  unfold Schedule.expect Schedule.amountOf; rw [duties_send m c hi, Finset.sum_singleton, amount_send]
theorem expect_recv {i : ℕ} (hi : i ∈ Finset.Ico 1 16) : (Rd m).expect (recvCell c i) 0 = N := by
  unfold Schedule.expect Schedule.amountOf; rw [duties_recv m c hi, Finset.sum_singleton, amount_recv]

theorem payload_bar (d : ℕ) : (Rd m).payload (barCell c) 0 d = barPay c d := rfl
theorem payload_send {i : ℕ} (hi : i ∈ Finset.Ico 1 16) (d : ℕ) : (Rd m).payload (sendCell c i) 0 d = sendPay m c i := by
  rw [Finset.mem_Ico] at hi
  dsimp only [Rd, payOf]; rw [sendS_val, if_neg (by omega), show 14 + i % 16 - 14 = i by omega]
theorem payload_recv {i : ℕ} (hi : i ∈ Finset.Ico 1 16) (d : ℕ) : (Rd m).payload (recvCell c i) 0 d = recvPay m c i := by
  rw [Finset.mem_Ico] at hi
  dsimp only [Rd, payOf]; rw [recvS_val, if_pos (by omega), show 30 + i % 16 - 30 = i by omega]

theorem rest_bar : bigSep ((Rd m).duties (barCell c) 0 \ ∅) (fun d => (Rd m).payload (barCell c) 0 d)
    = bigSep (Finset.Ico 1 16) (fun d => barPay c d) := by
  rw [Finset.sdiff_empty, duties_bar]; rfl
theorem rest_send {i : ℕ} (hi : i ∈ Finset.Ico 1 16) :
    bigSep ((Rd m).duties (sendCell c i) 0 \ ∅) (fun d => (Rd m).payload (sendCell c i) 0 d) = sendPay m c i := by
  rw [Finset.sdiff_empty, duties_send m c hi, bigSep_singleton, payload_send m c hi]
theorem rest_recv {i : ℕ} (hi : i ∈ Finset.Ico 1 16) :
    bigSep ((Rd m).duties (recvCell c i) 0 \ ∅) (fun d => (Rd m).payload (recvCell c i) 0 d) = recvPay m c i := by
  rw [Finset.sdiff_empty, duties_recv m c hi, bigSep_singleton, payload_recv m c hi]

end Facts

/-! ## What each device owes, and the levels -/

/-- Device `c` still owes the credits of blocks `i` to 15 and the barrier units of the devices `d` to 15 places further round. -/
def debt (c : Dev nD) (i d : ℕ) : CellTallies nD τ sig Unit :=
  (∑ k ∈ Finset.Ico i 16, tallyAt (recvCell (dst c k) k) () N) + ∑ k ∈ Finset.Ico d 16, tallyAt (barCell (dev c k)) () 1

theorem debt_sig (c : Dev nD) {i d : ℕ} (hd : d < 16) : debt c i d = debt c i (d + 1) + tallyAt (barCell (dev c d)) () 1 := by
  unfold debt
  rw [Ring.sum_Ico_succ hd, add_assoc, add_comm (tallyAt _ _ _)]
theorem debt_send (c : Dev nD) {i : ℕ} (hi : i < 16) : debt c i 16 = debt c (i + 1) 16 + tallyAt (recvCell (dst c i) i) () N := by
  unfold debt
  rw [Ring.sum_Ico_succ hi, Finset.Ico_self, Finset.sum_empty, add_zero, add_zero, add_comm]
theorem debt_none (c : Dev nD) : debt c 16 16 = 0 := by
  unfold debt; rw [Finset.Ico_self, Finset.sum_empty, Finset.sum_empty, add_zero]

def L (g : GSem nD τ sig) : Finset Unit := if g.1.2 = .tc then {()} else ∅
/-- Barrier cells at 1, receive cells at 2, everything else at 0. -/
def lvOf : SemLoc sig → ℕ
  | .reg _ => 1
  | .dma q => if 30 < q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem debt_pos {c : Dev nD} {i d : ℕ} (hi : 1 ≤ i) {g : GSem nD τ sig} {u : Unit} (h : 0 < debt c i d g u) :
    (∃ e k, k ∈ Finset.Ico 1 16 ∧ g = recvCell e k) ∨ (d < 16 ∧ ∃ e, g = barCell e) := by
  unfold debt at h
  rw [Pi.add_apply, Finsupp.add_apply, Finset.sum_apply, Finset.sum_apply, Finsupp.finset_sum_apply, Finsupp.finset_sum_apply] at h
  rcases Nat.add_pos_iff_pos_or_pos.mp h with h | h
  · obtain ⟨k, hk, hk'⟩ := Finset.exists_ne_zero_of_sum_ne_zero h.ne'
    rw [tallyAt_apply] at hk'
    rw [Finset.mem_Ico] at hk
    by_cases e : g = recvCell (dst c k) k ∧ u = ()
    · exact .inl ⟨_, k, Finset.mem_Ico.mpr (by omega), e.1⟩
    · rw [if_neg e] at hk'; exact absurd rfl hk'
  · obtain ⟨k, hk, hk'⟩ := Finset.exists_ne_zero_of_sum_ne_zero h.ne'
    rw [tallyAt_apply] at hk'
    rw [Finset.mem_Ico] at hk
    by_cases e : g = barCell (dev c k) ∧ u = ()
    · exact .inr ⟨by omega, _, e.1⟩
    · rw [if_neg e] at hk'; exact absurd rfl hk'

theorem lv_recv (e : Dev nD) {k : ℕ} (hk : k ∈ Finset.Ico 1 16) (u : Unit) : lv (recvCell e k) u = 2 := by
  rw [Finset.mem_Ico] at hk
  dsimp only [lv, lvOf]; rw [if_pos]; rw [recvS_val]; omega

/-- A wait on a semaphore below every receive cell is allowed whatever the device owes. -/
theorem mayWait_low (c : Dev nD) (q : DmaSem sig) (hq : q.val ≤ 30) {i d : ℕ} (hi : 1 ≤ i) :
    (levAts L lv : sProp 𝕄) ⊢ MayWait (c : Thread nD τ) (.dma q) () (debt c i d) :=
  MayOwe.of_cut (L := L) (lev := lv) 0 (fun p hp => by rw [Finset.mem_singleton.mp hp, L_tc]; exact Finset.mem_singleton_self _)
    (fun g u hg => by
      rcases debt_pos hi hg with ⟨e, k, hk, rfl⟩ | ⟨-, e, rfl⟩ <;> exact Finset.mem_singleton_self _)
    (fun p hp => by rw [Finset.mem_singleton.mp hp]; dsimp only [lv, lvOf]; rw [if_neg (by omega)])
    (fun g u hg => by
      rcases debt_pos hi hg with ⟨e, k, hk, rfl⟩ | ⟨-, e, rfl⟩
      · rw [lv_recv e hk]; decide
      · exact Nat.one_pos)

/-- At the barrier wait a device owes the credits of its copies only, whose cells lie above. -/
theorem mayWait_bar (c : Dev nD) {i : ℕ} (hi : 1 ≤ i) :
    (levAts L lv : sProp 𝕄) ⊢ MayWait (c : Thread nD τ) (.reg barS) () (debt c i 16) :=
  MayOwe.of_cut (L := L) (lev := lv) 1 (fun p hp => by rw [Finset.mem_singleton.mp hp, L_tc]; exact Finset.mem_singleton_self _)
    (fun g u hg => by
      rcases debt_pos hi hg with ⟨e, k, hk, rfl⟩ | ⟨-, e, rfl⟩ <;> exact Finset.mem_singleton_self _)
    (fun p hp => by rw [Finset.mem_singleton.mp hp]; exact le_refl _)
    (fun g u hg => by
      rcases debt_pos hi hg with ⟨e, k, hk, rfl⟩ | ⟨h, -⟩
      · rw [lv_recv e hk]; decide
      · omega)

/-! ## The invariants, and what has been reached -/

/-- The cell number `k` of a device: its barrier, its 15 send cells, its 15 receive cells. -/
def csem (k : Fin 31) : SemLoc sig := if k.val = 0 then .reg barS else if k.val ≤ 15 then .dma (sendS k.val) else .dma (recvS (k.val - 15))
abbrev kcell (ck : Dev nD × Fin 31) : GSem nD τ sig := ((ck.1 : Thread nD τ), csem ck.2)

/-- Every cell's invariant under the names `K`, and that each is at round 0 or later. -/
def records (K : Dev nD × Fin 31 → ℕ) : sProp 𝕄 :=
  iprop(bigSep Finset.univ (fun ck => cellInv ER (Rd m) (K ck) (kcell ck)) ∗ bigSep Finset.univ (fun ck => reached ER (kcell ck) 0))

instance records_persistent (K : Dev nD × Fin 31 → ℕ) : BI.Persistent (records m K) := by unfold records; infer_instance

def kBar (c : Dev nD) : Dev nD × Fin 31 := (c, 0)
def kSend (c : Dev nD) (i : ℕ) : Dev nD × Fin 31 := (c, Fin.ofNat 31 i)
def kRecv (c : Dev nD) (i : ℕ) : Dev nD × Fin 31 := (c, Fin.ofNat 31 (15 + i))

theorem kcell_bar (c : Dev nD) : kcell (kBar c) = barCell c := rfl
theorem kcell_send (c : Dev nD) {i : ℕ} (hi : i ∈ Finset.Ico 1 16) : kcell (kSend c i) = sendCell c i := by
  rw [Finset.mem_Ico] at hi
  have e : (Fin.ofNat 31 i).val = i := Nat.mod_eq_of_lt (by omega)
  unfold kcell csem kSend
  dsimp only
  rw [e, if_neg (by omega), if_pos (by omega)]
theorem kcell_recv (c : Dev nD) {i : ℕ} (hi : i ∈ Finset.Ico 1 16) : kcell (kRecv c i) = recvCell c i := by
  rw [Finset.mem_Ico] at hi
  have e : (Fin.ofNat 31 (15 + i)).val = 15 + i := Nat.mod_eq_of_lt (by omega)
  unfold kcell csem kRecv
  dsimp only
  rw [e, if_neg (by omega), if_neg (by omega), Nat.add_sub_cancel_left]

theorem records_inv (K : Dev nD × Fin 31 → ℕ) (ck : Dev nD × Fin 31) {g : GSem nD τ sig} (h : kcell ck = g) :
    records m K ⊢ cellInv ER (Rd m) (K ck) g := by
  subst h; unfold records
  iintro ⟨H, -⟩
  iapply (show bigSep Finset.univ (fun ck => cellInv ER (Rd m) (K ck) (kcell ck)) ⊢ cellInv ER (Rd m) (K ck) (kcell ck)
    from bigSep_elim (Finset.mem_univ ck)) $$ H
theorem records_reached (K : Dev nD × Fin 31 → ℕ) (ck : Dev nD × Fin 31) {g : GSem nD τ sig} (h : kcell ck = g) :
    records m K ⊢ reached ER g 0 := by
  subst h; unfold records
  iintro ⟨-, H⟩
  iapply (show bigSep Finset.univ (fun ck : Dev nD × Fin 31 => (reached ER (kcell ck) 0 : sProp 𝕄)) ⊢ reached ER (kcell ck) 0
    from bigSep_elim (Finset.mem_univ ck)) $$ H

end Cert.KernelIdealProof

end
-- ==== Proof.Steps.lean ====
/-
One rule per effect of the exchange, over families of what is still to do: a barrier signal, a remote copy, a wait for a
received block, a wait for a sent one.
-/
module

public import proofs.«01_k».proof.Proof.Sched

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's program text on device `c`, run to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## Families of numbers -/

section Fam
variable {M : Type} [URA M]
theorem fam_head {a b : ℕ} (h : a < b) (Φ : ℕ → sProp M) :
    bigSep (Finset.Ico a b) Φ = iprop(Φ a ∗ bigSep (Finset.Ico (a + 1) b) Φ) := by
  rw [Ring.Ico_eq_insert h, bigSep_insert (by simp)]; rfl
theorem fam_snoc {a b : ℕ} (h : a ≤ b) (Φ : ℕ → sProp M) :
    bigSep (Finset.Ico a (b + 1)) Φ = iprop(bigSep (Finset.Ico a b) Φ ∗ Φ b) := by
  have e : Finset.Ico a (b + 1) = insert b (Finset.Ico a b) := by ext x; simp only [Finset.mem_Ico, Finset.mem_insert]; omega
  rw [e, bigSep_insert (by simp)]
  exact BI.equiv_iff.mp ⟨BI.sep_comm, BI.sep_comm⟩
theorem fam_nil (a : ℕ) (Φ : ℕ → sProp M) : bigSep (Finset.Ico a a) Φ = iprop(emp) := by
  rw [Finset.Ico_self, bigSep_empty]; rfl
end Fam

/-! ## The states between effects -/

/-- Device `c` owes nothing. -/
def owes0 (c : Dev nD) : sProp 𝕄 := iprop(∃ Wt, owes (c : Thread nD τ) 0 Wt)

/-- The barrier signals still to send: each one's duty, and the column block it hands over. -/
def sigItem (c : Dev nD) (k : ℕ) : sProp 𝕄 :=
  iprop(dutyTok ER (barCell (dev c k)) 0 k ∗ ∃ f, xgL c ↦[xgBlk (pinv k)]{fullShare} f)
def SigSt (c : Dev nD) (d : ℕ) (Wt : Waits sig Unit) : sProp 𝕄 :=
  iprop(owes (c : Thread nD τ) (debt c 1 d) Wt ∗ bigSep (Finset.Ico d 16) (sigItem c))

/-- The remote copies still to issue: the rows sent, the block they go to, and the two duties. -/
def sndItem (c : Dev nD) (k : ℕ) : sProp 𝕄 :=
  iprop(sendPay m c k ∗ (∃ f, xgL (dst c k) ↦[xgBlk k]{fullShare} f)
    ∗ dutyTok ER (sendCell c k) 0 0 ∗ dutyTok ER (recvCell (dst c k) k) 0 0)
def SndSt (c : Dev nD) (i : ℕ) (Wt : Waits sig Unit) : sProp 𝕄 :=
  iprop(owes (c : Thread nD τ) (debt c i 16) Wt ∗ bigSep (Finset.Ico i 16) (sndItem m c)
    ∗ bigSep (Finset.Ico 1 i) (fun k => cred (tallyAt (sendCell c k) () N)))

/-- The received blocks still to wait for, and those that have come. -/
def RcvSt (c : Dev nD) (i : ℕ) : sProp 𝕄 :=
  iprop(bigSep (Finset.Ico i 16) (fun k => iprop(cred (tallyAt (recvCell c k) () N) ∗ atPos ER (recvCell c k) 0 ∅ 0))
    ∗ bigSep (Finset.Ico 1 i) (fun k => iprop(recvPay m c k ∗ semVal (recvCell c k) 0)))

/-- The sent blocks still to wait for, and those whose rows are back. -/
def SwtSt (c : Dev nD) (i : ℕ) : sProp 𝕄 :=
  iprop(bigSep (Finset.Ico i 16) (fun k => iprop(cred (tallyAt (sendCell c k) () N) ∗ atPos ER (sendCell c k) 0 ∅ 0))
    ∗ bigSep (Finset.Ico 1 i) (fun k => iprop(sendPay m c k ∗ semVal (sendCell c k) 0)))

/-! ## The rules -/

variable (K : Dev nD × Fin 31 → ℕ) {α : Type} {k : PUnit.{1} → Prog (TpuEff nD τ sig (Elt F) Λ₀ .tc) α}

theorem wp_sig {Q : α → sProp 𝕄} (c : Dev nD) {d : ℕ} (hd : d ∈ Finset.Ico 1 16) {e : Dev nD} (he : e.val = (c.val + d) % 16) {n : ℕ} (hn : n = 1) {Wt : Waits sig Unit} :
    iprop(records m K ∗ SigSt c d Wt)
      ⊢ iprop((SigSt c (d + 1) Wt -∗ run c (k ⟨⟩) Q) -∗ run c (.op (.semSignal (e : Thread nD τ) barS n) k) Q) := by
  have he' : e = dev c d := Fin.ext he
  subst he' hn
  have hd' := Finset.mem_Ico.mp hd
  unfold SigSt
  rw [fam_head hd'.2]
  unfold sigItem
  iintro ⟨#HR, HO, ⟨Htok, Hpay⟩, Hrest⟩ Hk
  iapply (Rounds.wp_signal 𝒱₀ ER (Rd m) (c : Thread nD τ) none (dst := (dev c d : Thread nD τ)) (κ := K (kBar (dev c d)))
      (d := d) (by rw [duties_bar]; exact hd) (amount_bar m (dev c d) d) () (debt c 1 (d + 1)) (debt_sig c hd'.2))
    $$ [HO Htok Hpay]
  · isplitr; · iapply (records_inv m K (kBar (dev c d)) (kcell_bar (dev c d))); iexact HR
    isplitl [HO]; · iexact HO
    isplitl [Htok]; · iexact Htok
    isplitl [Hpay]
    · rw [payload_bar]; unfold barPay; rw [dev_dev c d (16 - d) (by omega)]; iexact Hpay
    · iapply (records_reached m K (kBar (dev c d)) (kcell_bar (dev c d))); iexact HR
  iintro HO
  iapply Hk
  isplitl [HO] <;> iassumption

/-- The barrier wait: every device whose block `c` fills has handed it over. -/
theorem wp_bar {Q : α → sProp 𝕄} (c : Dev nD) {n : ℕ} (hn : n = 15) {Wt : Waits sig Unit} :
    iprop(records m K ∗ levAts L lv ∗ owes (c : Thread nD τ) (debt c 1 16) Wt ∗ cred (tallyAt (barCell c) () 15) ∗ atPos ER (barCell c) 0 ∅ 0)
      ⊢ iprop((((∃ Wt', owes (c : Thread nD τ) (debt c 1 16) Wt') ∗ bigSep (Finset.Ico 1 16) (barPay (F := F) c) ∗ semVal (barCell c) 0) -∗ run c (k ⟨⟩) Q)
          -∗ run c (.op (.semWait barS n) k) Q) := by
  subst hn
  iintro ⟨#HR, #Hlev, HO, Hc, Hat⟩ Hk
  iapply (Rounds.wp_wait_rest_token 𝒱₀ ER (Rd m) (c : Thread nD τ) none (κ := K (kBar c))
      (wpE_semWait_eq 𝒱₀ (c : Thread nD τ) none Set.univ) (Set.mem_univ _) () (O := debt c 1 16) (W := Wt) (R := 0) (m := 0) (T := ∅)
      (by rw [expect_bar])) $$ [HO Hc Hat]
  · isplitr; · iapply (records_inv m K (kBar c) (kcell_bar c)); iexact HR
    isplitl [Hc]; · iexact Hc
    isplitl [HO]; · iexact HO
    isplitr; · iapply (mayWait_bar c le_rfl); iexact Hlev
    iexact Hat
  iintro ⟨HO, Hat, -, Hpay⟩
  imod (Rounds.cell_close ER (Rd m) (Set.mem_univ (K (kBar c))) (fun h => h) (R := 0 + 1) (duties_later m (barCell c))) $$ [Hat] with Hz
  · isplitr; · iapply (records_inv m K (kBar c) (kcell_bar c)); iexact HR
    iexact Hat
  iapply Hk
  isplitl [HO]; · iexists _; iexact HO
  isplitl [Hpay]; · iapply (Entails.of_eq (rest_bar m c)) $$ Hpay
  iexact Hz

theorem wp_snd {Q : α → sProp 𝕄} (c : Dev nD) {i : ℕ} (hi : i ∈ Finset.Ico 1 16) {e : Dev nD} (he : e.val = (c.val + (16 - perm i)) % 16)
    {off off' : Fin 2 → Nat} {inb inb'} (h : off = ![256 * ((c.val + (16 - perm i)) % 16), 0]) (h' : off' = ![0, 256 * i])
    {sS sR : DmaSem sig} (hS : sS = sendS i) (hR : sR = recvS i)
    {hsc : (xgSl off' inb' : Memref sig (Dev.tc e : Thread nD τ).2.kind .vmem S256x256 .bf16).view.ref.isScScratch = false}
    {hsrc : (xbSl off inb).view.WordExact} {hdst : (xgSl off' inb').view.WordExact}
    {hsem : DmaTarget.Typed .vmem (.dma sR) (.remote (Dev.tc e : Thread nD τ) (xgSl off' inb' : Memref sig (Dev.tc e : Thread nD τ).2.kind .vmem S256x256 .bf16) (.dma sS) hsc)}
    {Wt : Waits sig Unit} :
    iprop(records m K ∗ SndSt m c i Wt)
      ⊢ iprop((SndSt m c (i + 1) Wt -∗ run c (k ⟨⟩) Q)
          -∗ run c (.op (.enqueueDma (xbSl off inb) (.remote (Dev.tc e : Thread nD τ) (xgSl off' inb') (.dma sS) hsc) (.dma sR) hsrc hdst hsem) k) Q) := by
  have he' : e = dst c i := Fin.ext he
  subst he' hS hR
  have hi' := Finset.mem_Ico.mp hi
  unfold SndSt
  rw [fam_head hi'.2, fam_snoc hi'.1]
  unfold sndItem sendPay
  iintro ⟨#HR, HO, ⟨⟨Hsrc, ⟨%fn, Hdst⟩, HtS, HtR⟩, Hrest⟩, Hcr⟩ Hk
  rw [← xb_set (inb := inb) (j := (dst c i).val) h, ← xg_set (inb := inb') h']
  iapply (Rounds.wp_send_pointsTo 𝒱₀ ER (Rd m) (c : Thread nD τ) none (κ₁ := K (kSend c i)) (κ₂ := K (kRecv (dst c i) i))
    (r₁ := 0) (r₂ := 0) (d₁ := 0) (d₂ := 0) (fd := fn) (c' := (Dev.tc (dst c i) : Thread nD τ)) (src := xbSl off inb)
    (dst := (xgSl off' inb' : Memref sig (Dev.tc (dst c i) : Thread nD τ).2.kind .vmem S256x256 .bf16))
    (hsc := hsc) (hsrc := hsrc) (hdst := hdst) (hsem := hsem)
    (by rw [duties_send m c hi]; exact Finset.mem_singleton_self _) (by rw [duties_recv m _ hi]; exact Finset.mem_singleton_self _)
    () () N rfl (amount_send m c i 0) (amount_recv m (dst c i) i 0) (debt c (i + 1) 16) (debt_send c hi'.2) (W := Wt)
    (by rw [payload_send m c hi]; unfold sendPay; rw [← xb_set (inb := inb) (j := (dst c i).val) h])
    (by
      rw [payload_recv m _ hi]; unfold recvPay
      rw [← xg_set (inb := inb') h']
      exact Entails.of_eq (pointsTo_congr (copy_x m c (dst c i) i hi'.2 (dev_dst c i) h h' fn)))) $$ [Hsrc Hdst HO HtS HtR]
  · isplitr; · iapply (records_inv m K (kSend c i) (kcell_send c hi)); iexact HR
    isplitr; · iapply (records_inv m K (kRecv (dst c i) i) (kcell_recv (dst c i) hi)); iexact HR
    isplitl [Hsrc]; · iexact Hsrc
    isplitl [Hdst]; · iexact Hdst
    isplitl [HO]; · iexact HO
    isplitl [HtS]; · iexact HtS
    isplitr; · iapply (records_reached m K (kSend c i) (kcell_send c hi)); iexact HR
    isplitl [HtR]; · iexact HtR
    iapply (records_reached m K (kRecv (dst c i) i) (kcell_recv (dst c i) hi)); iexact HR
  iintro ⟨Hc, HO⟩
  iapply Hk
  isplitl [HO]; · iexact HO
  isplitl [Hrest]; · iexact Hrest
  isplitl [Hcr] <;> iassumption

theorem wp_rcv {Q : α → sProp 𝕄} (c : Dev nD) {i : ℕ} (hi : i ∈ Finset.Ico 1 16) {sR : DmaSem sig} (hR : sR = recvS i)
    {sp sp' : Space} {s s' : Shape} {e e' : EltTy} {srcw : Memref sig .tc sp' s' e'} {dstw : Memref sig .tc sp s e}
    {hsrc : srcw.view.WordExact} {hdst : dstw.view.WordExact} (hN : dstw.view.dmaCredit = N) :
    iprop(records m K ∗ owes0 c ∗ RcvSt m c i)
      ⊢ iprop(((owes0 c ∗ RcvSt m c (i + 1)) -∗ run c (k ⟨⟩) Q) -∗ run c (.op (.waitDma2 sR srcw dstw hsrc hdst) k) Q) := by
  subst hR
  have hi' := Finset.mem_Ico.mp hi
  unfold RcvSt owes0
  rw [fam_head hi'.2, fam_snoc hi'.1]
  iintro ⟨#HR, ⟨%Wt, HO⟩, ⟨⟨Hc, Hat⟩, Hrest⟩, Hdone⟩ Hk
  iapply (Rounds.wp_wait_rest_token 𝒱₀ ER (Rd m) (c : Thread nD τ) none (κ := K (kRecv c i))
      (wpE_waitDma2_eq 𝒱₀ (c : Thread nD τ) none Set.univ) (Set.mem_univ _) () (O := 0) (W := Wt) (R := 0) (m := 0) (T := ∅)
      (by rw [Nat.zero_add, expect_recv m c hi, hN])) $$ [HO Hc Hat]
  · isplitr; · iapply (records_inv m K (kRecv c i) (kcell_recv c hi)); iexact HR
    isplitl [Hc]; · rw [hN]; iexact Hc
    isplitl [HO]; · iexact HO
    isplitr; · rw [MayWait_zero]; iempintro
    iexact Hat
  iintro ⟨HO, Hat, -, Hpay⟩
  imod (Rounds.cell_close ER (Rd m) (Set.mem_univ (K (kRecv c i))) (fun h => h) (R := 0 + 1) (duties_later m (recvCell c i))) $$ [Hat] with Hz
  · isplitr; · iapply (records_inv m K (kRecv c i) (kcell_recv c hi)); iexact HR
    iexact Hat
  ihave Hp := (Entails.of_eq (rest_recv m c hi)) $$ Hpay
  iapply Hk
  isplitl [HO]; · iexists _; iexact HO
  isplitl [Hrest]; · iexact Hrest
  isplitl [Hdone]; · iexact Hdone
  isplitl [Hp] <;> iassumption

theorem wp_swt {Q : α → sProp 𝕄} (c : Dev nD) {i : ℕ} (hi : i ∈ Finset.Ico 1 16) {sS : DmaSem sig} (hS : sS = sendS i)
    {sp sp' : Space} {s s' : Shape} {e e' : EltTy} {srcw : Memref sig .tc sp' s' e'} {dstw : Memref sig .tc sp s e}
    {hsrc : srcw.view.WordExact} {hdst : dstw.view.WordExact} (hN : dstw.view.dmaCredit = N) :
    iprop(records m K ∗ owes0 c ∗ SwtSt m c i)
      ⊢ iprop(((owes0 c ∗ SwtSt m c (i + 1)) -∗ run c (k ⟨⟩) Q) -∗ run c (.op (.waitDma2 sS srcw dstw hsrc hdst) k) Q) := by
  subst hS
  have hi' := Finset.mem_Ico.mp hi
  unfold SwtSt owes0
  rw [fam_head hi'.2, fam_snoc hi'.1]
  iintro ⟨#HR, ⟨%Wt, HO⟩, ⟨⟨Hc, Hat⟩, Hrest⟩, Hdone⟩ Hk
  iapply (Rounds.wp_wait_rest_token 𝒱₀ ER (Rd m) (c : Thread nD τ) none (κ := K (kSend c i))
      (wpE_waitDma2_eq 𝒱₀ (c : Thread nD τ) none Set.univ) (Set.mem_univ _) () (O := 0) (W := Wt) (R := 0) (m := 0) (T := ∅)
      (by rw [Nat.zero_add, expect_send m c hi, hN])) $$ [HO Hc Hat]
  · isplitr; · iapply (records_inv m K (kSend c i) (kcell_send c hi)); iexact HR
    isplitl [Hc]; · rw [hN]; iexact Hc
    isplitl [HO]; · iexact HO
    isplitr; · rw [MayWait_zero]; iempintro
    iexact Hat
  iintro ⟨HO, Hat, -, Hpay⟩
  imod (Rounds.cell_close ER (Rd m) (Set.mem_univ (K (kSend c i))) (fun h => h) (R := 0 + 1) (duties_later m (sendCell c i))) $$ [Hat] with Hz
  · isplitr; · iapply (records_inv m K (kSend c i) (kcell_send c hi)); iexact HR
    iexact Hat
  ihave Hp := (Entails.of_eq (rest_send m c hi)) $$ Hpay
  iapply Hk
  isplitl [HO]; · iexists _; iexact HO
  isplitl [Hrest]; · iexact Hrest
  isplitl [Hdone]; · iexact Hdone
  isplitl [Hp] <;> iassumption

end Cert.KernelIdealProof

end
-- ==== Proof.Chunks.lean ====
/-
The copies inside one device: a chunk of the weights into a slot of the weight buffer, eight copies counted on the slot's
one semaphore, and an output tile out of the accumulator, one copy on the tile's own semaphore.
-/
module

public import proofs.«01_k».proof.Proof.Views
public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

/-- What one copy of 256 rows of a chunk credits, and one of an output tile. -/
def Nw : ℕ := (rSq ![0, 0, 0] (by decide)).view.dmaCredit
def No : ℕ := (ySl ![0, 0] (by decide)).view.dmaCredit
theorem Nw_pos : 0 < Nw := by decide
theorem No_pos : 0 < No := by decide

/-! ## A chunk -/

/-- A slot with nothing in flight. -/
def Free (c : Dev nD) (k : ℕ) : sProp 𝕄 :=
  iprop(semVal ((c : Thread nD τ), .dma (ringS k)) 0 ∗ ∃ f, rL c ↦[rSl (k % 5)]{fullShare} f)
/-- The weights a chunk is copied from. -/
def wItem (c : Dev nD) (ch j : ℕ) : sProp 𝕄 := wL c ↦[wPc (wrow c ch j) (ch % 8)]{fullShare} W m c
def wCh (c : Dev nD) (ch : ℕ) : sProp 𝕄 := bigSep (Finset.Ico 0 8) (wItem m c ch)
/-- What copy `j` of a chunk delivers. -/
def chunkD (c : Dev nD) (ch : ℕ) (j : Fin 8) : sProp 𝕄 :=
  iprop((rL c ↦[rPc (ch % 5) j.val]{fullShare} rC m c ch) ∗ wItem m c ch j.val)
instance chunkD_storable (c : Dev nD) (ch : ℕ) (j : Fin 8) : BI.Storable (upEmb : UEmb _ 𝕄) (chunkD m c ch j) := by
  unfold chunkD wItem; infer_instance

def Bt (c : Dev nD) (ch j u : ℕ) : sProp 𝕄 := Batch EC (c : Thread nD τ) (.dma (ringS ch)) () Nw (chunkD m c ch) j u
/-- The chunk with `j` of its copies issued. -/
def IssSt (c : Dev nD) (ch j : ℕ) : sProp 𝕄 :=
  iprop(Bt m c ch j 0 ∗ bigSep (Finset.Ico j 8) (fun i => iprop((∃ f, rL c ↦[rPc (ch % 5) i]{fullShare} f) ∗ wItem m c ch i)))
/-- The chunk all issued, `j` of its copies waited for. -/
def WtSt (c : Dev nD) (ch j : ℕ) : sProp 𝕄 := iprop(owes0 c ∗ Bt m c ch 8 (j * Nw))
def Flight (c : Dev nD) (ch : ℕ) : sProp 𝕄 := Bt m c ch 8 0

theorem rSl_pieces (k : ℕ) : rSl k = (Finset.Ico 0 8).biUnion (rPc k) := by
  ext x
  have h1 : (x 1).val < 2048 := (x 1).isLt
  simp only [rSl, rPc, Finset.mem_biUnion, Finset.mem_filter, Finset.mem_univ, true_and, Finset.mem_Ico]
  exact ⟨fun h => ⟨(x 1).val / 256, by omega, h, rfl⟩, fun ⟨_, _, h, _⟩ => h⟩
theorem rPc_disj (k : ℕ) : ∀ i ∈ Finset.Ico 0 8, ∀ j ∈ Finset.Ico 0 8, i ≠ j → Disjoint (rPc k i) (rPc k j) := by
  intro i _ j _ hij
  refine Finset.disjoint_left.mpr fun x hi hj => hij ?_
  simp only [rPc, Finset.mem_filter, Finset.mem_univ, true_and] at hi hj
  exact hi.2.symm.trans hj.2

theorem iss_start (c : Dev nD) (ch : ℕ) : iprop(Free c ch ∗ wCh m c ch) ⊢ |={Set.univ}=> IssSt m c ch 0 := by
  unfold Free wCh IssSt Bt
  iintro ⟨⟨Hv, ⟨%f, Hr⟩⟩, Hw⟩
  imod (batch_alloc' EC (c : Thread nD τ) () Nw (chunkD m c ch) (E := Set.univ)) $$ Hv with HB
  imodintro
  isplitl [HB]; · iexact HB
  rw [show bigSep (Finset.Ico 0 8) (fun i => iprop((∃ f, rL c ↦[rPc (ch % 5) i]{fullShare} f) ∗ wItem m c ch i))
    = iprop(bigSep (Finset.Ico 0 8) (fun i => iprop(∃ f, rL c ↦[rPc (ch % 5) i]{fullShare} f)) ∗ bigSep (Finset.Ico 0 8) (wItem m c ch))
    from bigSep_sep _ _ _]
  isplitl [Hr]
  · ihave H := (Entails.of_eq (show (rL c ↦[rSl (ch % 5)]{fullShare} f : sProp 𝕄) = bigSep (Finset.Ico 0 8) (fun i => (rL c ↦[rPc (ch % 5) i]{fullShare} f))
      by rw [rSl_pieces, pointsTo_biUnion _ _ (rPc_disj _)])) $$ Hr
    iapply (show bigSep (Finset.Ico 0 8) (fun i => (rL c ↦[rPc (ch % 5) i]{fullShare} f : sProp 𝕄))
      ⊢ bigSep (Finset.Ico 0 8) (fun i => iprop(∃ f, rL c ↦[rPc (ch % 5) i]{fullShare} f))
      from bigSep_mono fun i _ => BIClass.exists_intro (Φ := fun f => (rL c ↦[rPc (ch % 5) i]{fullShare} f : sProp 𝕄)) f) $$ H
  · iexact Hw

theorem iss_end (c : Dev nD) (ch : ℕ) : IssSt m c ch 8 ⊢ Flight m c ch := by
  unfold IssSt Flight
  rw [fam_nil]
  iintro ⟨H, -⟩
  iexact H

theorem wt_end (c : Dev nD) (ch : ℕ) :
    WtSt m c ch 8 ⊢ |={Set.univ}=> iprop(owes0 c ∗ semVal ((c : Thread nD τ), .dma (ringS ch)) 0 ∗ (rL c ↦[rSl (ch % 5)]{fullShare} rC m c ch) ∗ wCh m c ch) := by
  unfold WtSt Bt wCh
  rw [Nat.mul_comm]
  iintro ⟨HO, HB⟩
  imod (batch_collect' EC (c : Thread nD τ) Nw_pos) $$ HB with ⟨HD, Hv⟩
  imodintro
  isplitl [HO]; · iexact HO
  isplitl [Hv]; · iexact Hv
  rw [rSl_pieces, pointsTo_biUnion _ _ (rPc_disj _)]
  rw [← (show bigSep (Finset.Ico 0 8) (fun i => iprop((rL c ↦[rPc (ch % 5) i]{fullShare} rC m c ch) ∗ wItem m c ch i))
    = iprop(bigSep (Finset.Ico 0 8) (fun i => iprop(rL c ↦[rPc (ch % 5) i]{fullShare} rC m c ch)) ∗ bigSep (Finset.Ico 0 8) (wItem m c ch))
    from bigSep_sep _ _ _)]
  rw [show Finset.Ico 0 8 = Finset.range 8 by rfl]
  rw [← Ring.bigSep_fin_eq_range 8 (chunkD m c ch) (fun i => iprop((rL c ↦[rPc (ch % 5) i]{fullShare} rC m c ch) ∗ wItem m c ch i)) (fun _ _ => rfl)]
  iexact HD

variable {α : Type} {k : PUnit.{1} → Prog (TpuEff nD τ sig (Elt F) Λ₀ .tc) α}

theorem wp_issue {Q : α → sProp 𝕄} (c : Dev nD) (ch : ℕ) {j : ℕ} (hj : j < 8) {off : Fin 2 → Nat} {inb} {off' : Fin 3 → Nat} {inb'}
    (h : off = ![256 * wrow c ch j, 1024 * (ch % 8)]) (h' : off' = ![ch % 5, 256 * j, 0]) {sm : DmaSem sig} (hs : sm = ringS ch)
    {hsrc : (wSl off inb).view.WordExact} {hdst : (rSq off' inb').view.WordExact}
    {hsem : DmaTarget.Typed (nD := nD) (p := (Proc.tc : Proc τ)) .hbm (.dma sm) (.here (rSq off' inb'))} :
    IssSt m c ch j ⊢ iprop((IssSt m c ch (j + 1) -∗ run c (k ⟨⟩) Q)
      -∗ run c (.op (.enqueueDma (wSl off inb) (.here (rSq off' inb')) (.dma sm) hsrc hdst hsem) k) Q) := by
  subst hs
  unfold IssSt Bt
  rw [fam_head hj]
  unfold wItem
  iintro ⟨HB, ⟨⟨⟨%fn, Hr⟩, Hw⟩, Hrest⟩⟩ Hk
  rw [← w_set (inb := inb) h, ← r_set (inb := inb') h']
  iapply (wp_dmaBatch EC 𝒱₀ (c : Thread nD τ) none () Nw (D := chunkD m c ch) (u := 0) (fd := fn) (fs := W m c) (q := fullShare)
    (src := wSl off inb) (dst := rSq off' inb') (hsrc := hsrc) (hdst := hdst) (hsem := hsem) rfl (Finset.Subset.refl _) hj (Nat.zero_le _)
    (by
      unfold chunkD wItem
      rw [← w_set (inb := inb) h, ← r_set (inb := inb') h']
      exact BI.sep_mono (Entails.of_eq (pointsTo_congr (copy_w m c ch (ch % 5) j hj h h' fn))) (BI.Entails.refl _))) $$ [HB Hr Hw]
  · isplitl [Hw]; · iexact Hw
    isplitl [Hr]; · iexact Hr
    iexact HB
  iintro HB
  iapply Hk
  isplitl [HB] <;> iassumption

theorem wp_wt {Q : α → sProp 𝕄} (c : Dev nD) (ch : ℕ) {j : ℕ} (hj : j < 8) {sm : DmaSem sig} (hs : sm = ringS ch)
    {sp sp' : Space} {s s' : Shape} {e e' : EltTy} {srcw : Memref sig .tc sp' s' e'} {dstw : Memref sig .tc sp s e}
    {hsrc : srcw.view.WordExact} {hdst : dstw.view.WordExact} (hN : dstw.view.dmaCredit = Nw) :
    WtSt m c ch j ⊢ iprop((WtSt m c ch (j + 1) -∗ run c (k ⟨⟩) Q) -∗ run c (.op (.waitDma2 sm srcw dstw hsrc hdst) k) Q) := by
  subst hs
  unfold WtSt owes0 Bt
  have hu : j * Nw + 1 * Nw ≤ Nw * 8 := by rw [← Nat.add_mul, Nat.mul_comm Nw]; exact Nat.mul_le_mul_right _ (by omega)
  iintro ⟨⟨%Wt, HO⟩, HB⟩ Hk
  iapply (wp_waitBatchMul EC 𝒱₀ (c : Thread nD τ) none () (N := Nw) (D := chunkD m c ch) (j := 8) (u := j * Nw) 1
    (hN.trans (Nat.one_mul Nw).symm) hu (W := Wt)) $$ [HO HB]
  · isplitl [HB]; · iexact HB
    iexact HO
  iintro ⟨HB, HO⟩
  iapply Hk
  isplitl [HO]; · iexists _; iexact HO
  rw [show (j + 1) * Nw = j * Nw + 1 * Nw from Nat.add_mul _ _ _]
  iexact HB

/-! ## An output tile -/

/-- An output tile still to be produced: where it goes, and its semaphore. -/
def OutIdle (c : Dev nD) (t : ℕ) : sProp 𝕄 :=
  iprop(semVal ((c : Thread nD τ), .dma (outS t)) 0 ∗ ∃ f, yL c ↦[oTl t]{fullShare} f)
/-- What the copy of a tile delivers. -/
def tileD (c : Dev nD) (t : ℕ) : sProp 𝕄 := iprop((yL c ↦[oTl t]{fullShare} oC2 m c) ∗ (oL c ↦[oTl t]{fullShare} oC2 m c))
instance tileD_storable (c : Dev nD) (t : ℕ) : BI.Storable (upEmb : UEmb _ 𝕄) (tileD m c t) := by unfold tileD; infer_instance
def OutB (c : Dev nD) (t j u : ℕ) : sProp 𝕄 :=
  Batch EC (c : Thread nD τ) (.dma (outS t)) () No (fun _ : Fin 1 => tileD m c t) j u
def OutFly (c : Dev nD) (t : ℕ) : sProp 𝕄 := OutB m c t 1 0
/-- The tiles whose copies are still to be waited for, and those that are out. -/
def OwtSt (c : Dev nD) (t : ℕ) : sProp 𝕄 :=
  iprop(bigSep (Finset.Ico t 8) (OutFly m c) ∗ bigSep (Finset.Ico 0 t) (fun t => iprop(tileD m c t ∗ semVal ((c : Thread nD τ), .dma (outS t)) 0)))

theorem wp_out {Q : α → sProp 𝕄} (c : Dev nD) (t : ℕ) {off off' : Fin 2 → Nat} {inb inb'}
    (h : off = ![0, 1024 * t]) (h' : off' = ![0, 1024 * t]) {sm : DmaSem sig} (hs : sm = outS t)
    {hsrc : (oSl off inb).view.WordExact} {hdst : (ySl off' inb').view.WordExact}
    {hsem : DmaTarget.Typed (nD := nD) (p := (Proc.tc : Proc τ)) .vmem (.dma sm) (.here (ySl off' inb'))} :
    iprop(OutIdle c t ∗ (oL c ↦[oTl t]{fullShare} oC2 m c)) ⊢ iprop((OutFly m c t -∗ run c (k ⟨⟩) Q)
      -∗ run c (.op (.enqueueDma (oSl off inb) (.here (ySl off' inb')) (.dma sm) hsrc hdst hsem) k) Q) := by
  subst hs
  obtain rfl : off = off' := h.trans h'.symm
  unfold OutIdle OutFly OutB
  iintro ⟨⟨Hv, ⟨%fn, Hy⟩⟩, Ho⟩ Hk
  imod (batch_alloc' EC (c : Thread nD τ) () No (fun _ : Fin 1 => tileD m c t) (E := Set.univ)) $$ Hv with HB
  ihave Ho' := (Entails.of_eq (show (oL c ↦[oTl t]{fullShare} oC2 m c : sProp 𝕄) = (oL c ↦[(oSl off inb).view.set]{fullShare} oC2 m c) by rw [o_set (inb := inb) h])) $$ Ho
  ihave Hy' := (Entails.of_eq (show (yL c ↦[oTl t]{fullShare} fn : sProp 𝕄) = (yL c ↦[(ySl off inb').view.set]{fullShare} fn) by rw [y_set (inb := inb') h])) $$ Hy
  iapply (wp_dmaBatch EC 𝒱₀ (c : Thread nD τ) none () No (D := fun _ : Fin 1 => tileD m c t) (j := 0) (u := 0) (fd := fn) (fs := oC2 m c) (q := fullShare)
    (src := oSl off inb) (dst := ySl off inb') (hsrc := hsrc) (hdst := hdst) (hsem := hsem) rfl (Finset.Subset.refl _) Nat.one_pos (Nat.zero_le _)
    (by
      unfold tileD
      rw [pointsTo_congr (copy_o (oC2 m c) fn), y_set (inb := inb') h, o_set (inb := inb) h])) $$ [HB Hy' Ho']
  · isplitl [Ho']; · iexact Ho'
    isplitl [Hy']; · iexact Hy'
    iexact HB
  iexact Hk

theorem wp_outwait {Q : α → sProp 𝕄} (c : Dev nD) {t : ℕ} (ht : t < 8) {sm : DmaSem sig} (hs : sm = outS t)
    {sp sp' : Space} {s s' : Shape} {e e' : EltTy} {srcw : Memref sig .tc sp' s' e'} {dstw : Memref sig .tc sp s e}
    {hsrc : srcw.view.WordExact} {hdst : dstw.view.WordExact} (hN : dstw.view.dmaCredit = No) :
    iprop(owes0 c ∗ OwtSt m c t) ⊢ iprop(((owes0 c ∗ OwtSt m c (t + 1)) -∗ run c (k ⟨⟩) Q) -∗ run c (.op (.waitDma2 sm srcw dstw hsrc hdst) k) Q) := by
  subst hs
  unfold OwtSt owes0
  rw [fam_head ht, fam_snoc (Nat.zero_le t)]
  unfold OutFly OutB
  iintro ⟨⟨%Wt, HO⟩, ⟨HB, Hrest⟩, Hdone⟩ Hk
  iapply (wp_waitBatchMul EC 𝒱₀ (c : Thread nD τ) none () (N := No) (D := fun _ : Fin 1 => tileD m c t) (j := 1) (u := 0) 1
    (hN.trans (Nat.one_mul No).symm) (by omega) (W := Wt)) $$ [HO HB]
  · isplitl [HB]; · iexact HB
    iexact HO
  iintro ⟨HB, HO⟩
  have hu : 0 + 1 * No = No * 1 := by omega
  rw [hu]
  imod (batch_collect' EC (c : Thread nD τ) No_pos (D := fun _ : Fin 1 => tileD m c t)) $$ HB with ⟨HD, Hv⟩
  iapply Hk
  isplitl [HO]; · iexists _; iexact HO
  isplitl [Hrest]; · iexact Hrest
  isplitl [Hdone]; · iexact Hdone
  isplitl [HD]
  · iapply (show bigSep Finset.univ (fun _ : Fin 1 => tileD m c t) ⊢ tileD m c t from bigSep_elim (Finset.mem_univ (0 : Fin 1))) $$ HD
  iexact Hv

end Cert.KernelIdealProof

end
-- ==== Proof.Loads.lean ====
/-
Loads and stores of the body, by the pieces of the buffers they touch.
-/
module

public import proofs.«01_k».proof.Proof.Views
public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

variable {α : Type}

/-! ## Reading a block -/

theorem rd_xg (c : Dev nD) (g : ℕ) (hg : g < 2) {off : Fin 2 → Nat} {inb : ∀ a, off a + S256x2048.size a ≤ S256x4096.size a} (h : off = ![0, 2048 * g]) :
    (xgM.access (Rect.unit (s := S256x4096) off S256x2048.size inb)).read (Elt F) (xgC m c) = xh m c g := by
  subst h
  funext y
  have e0 : (y 0).val < 256 := (y 0).isLt
  have e1 : (y 1).val < 2048 := (y 1).isLt
  show xgC m c _ = xgC m c _
  congr 1
  funext a
  fin_cases a
  · refine Fin.ext ?_
    show 0 + 1 * (y 0).val = (y 0).val
    omega
  · refine Fin.ext ?_
    show 2048 * g + 1 * (y 1).val = (g * 2048 + (y 1).val) % 4096
    omega
theorem xgH_set {g : ℕ} {off : Fin 2 → Nat} {inb : ∀ a, off a + S256x2048.size a ≤ S256x4096.size a} (h : off = ![0, 2048 * g]) :
    (xgM.access (Rect.unit (s := S256x4096) off S256x2048.size inb)).set = xgHalfSet g := by
  subst h; ext i
  refine (slice_mem cc0_scratch1 _ _ _ i).trans ?_
  have h1 : (i 0).val < 256 := (i 0).isLt
  simp only [xgHalfSet, Finset.mem_filter, Finset.mem_univ, true_and]
  constructor
  · intro H; have := H 1; simp at this; omega
  · intro H a; fin_cases a <;> simp <;> omega

theorem rd_r (c : Dev nD) (ch : ℕ) {off : Fin 3 → Nat} {inb : ∀ a, off a + S1x2048x1024.size a ≤ S5x2048x1024.size a} (h : off = ![ch % 5, 0, 0]) :
    (rM.access (Rect.unit (s := S5x2048x1024) off S1x2048x1024.size inb)).read (Elt F) (rC m c ch) = wc m c ch := by
  subst h
  funext y
  have e1 : (y 1).val < 2048 := (y 1).isLt
  have e2 : (y 2).val < 1024 := (y 2).isLt
  show rC m c ch _ = rC m c ch _
  unfold rC
  have c1 : (((rM.access (Rect.unit (s := S5x2048x1024) ![ch % 5, 0, 0] S1x2048x1024.size inb)).emb y) 1).val = (y 1).val := by
    show 0 + 1 * (y 1).val = _; omega
  have c2 : (((rM.access (Rect.unit (s := S5x2048x1024) ![ch % 5, 0, 0] S1x2048x1024.size inb)).emb y) 2).val = (y 2).val := by
    show 0 + 1 * (y 2).val = _; omega
  rw [c1, c2]
theorem rS_set {k : ℕ} {off : Fin 3 → Nat} {inb : ∀ a, off a + S1x2048x1024.size a ≤ S5x2048x1024.size a} (h : off = ![k, 0, 0]) :
    (rM.access (Rect.unit (s := S5x2048x1024) off S1x2048x1024.size inb)).set = rSl k := by
  subst h; ext i
  refine (slice_mem cc0_scratch3 _ _ _ i).trans ?_
  have h1 : (i 1).val < 2048 := (i 1).isLt
  have h2 : (i 2).val < 1024 := (i 2).isLt
  simp only [rSl, Finset.mem_filter, Finset.mem_univ, true_and]
  constructor
  · intro H; have := H 0; simp at this; omega
  · intro H a; fin_cases a <;> simp <;> omega

/-- A tile of the accumulator: where its element `y` is. -/
theorem o_emb {t : ℕ} {off : Fin 2 → Nat} {inb : ∀ a, off a + S256x1024.size a ≤ S256x8192.size a} (h : off = ![0, 1024 * t]) (y : S256x1024.Idx) :
    (((oSl off inb).view.emb y) 1).val = 1024 * t + (y 1).val ∧ ((oSl off inb).view.emb y) 0 = y 0 := by
  subst h
  refine ⟨?_, Fin.ext ?_⟩
  · show 1024 * t + 1 * (y 1).val = _; omega
  · show 0 + 1 * (y 0).val = _; omega
theorem o_emb' {t : ℕ} {off : Fin 2 → Nat} {inb : ∀ a, off a + S256x1024.size a ≤ S256x8192.size a} (h : off = ![0, 1024 * t]) (y : S256x1024.Idx)
    (T : ℕ → Vec F S256x1024 .f32) :
    T ((((oSl off inb).view.emb y) 1).val / 1024) (ValueIdx.ix2 (((oSl off inb).view.emb y) 0) (Fin.ofNat 1024 (((oSl off inb).view.emb y) 1).val)) = T t y := by
  obtain ⟨e, e0⟩ := o_emb (inb := inb) h y
  have e1 : (y 1).val < 1024 := (y 1).isLt
  rw [e, e0, show (1024 * t + (y 1).val) / 1024 = t by omega]
  congr 1
  refine Eq.trans ?_ (ValueIdx.eq_ix2 y).symm
  congr 1
  refine Fin.ext ?_
  show (1024 * t + (y 1).val) % 1024 = _
  omega
theorem rd_o (c : Dev nD) (t : ℕ) {off : Fin 2 → Nat} {inb : ∀ a, off a + S256x1024.size a ≤ S256x8192.size a} (h : off = ![0, 1024 * t]) :
    (oM.access (Rect.unit (s := S256x8192) off S256x1024.size inb)).read (Elt F) (oC1 m c) = tile1 m c t := by
  funext y
  exact o_emb' (inb := inb) h y (tile1 m c)

/-! ## The loads and stores -/

theorem wp_ldxg {Q : α → sProp 𝕄} (c : Dev nD) {g : ℕ} (hg : g < 2) {off : Fin 2 → Nat} {inb : ∀ a, off a + S256x2048.size a ≤ S256x4096.size a} (h : off = ![0, 2048 * g])
    {hl} {k : Vec F S256x2048 .bf16 → Prog (TpuEff nD τ sig (Elt F) Λ₀ .tc) α} :
    (xgL c ↦[xgHalfSet g]{fullShare} xgC m c) ⊢ iprop(((xgL c ↦[xgHalfSet g]{fullShare} xgC m c) -∗ run c (k (xh m c g)) Q)
      -∗ run c (.op (.load xgM (Rect.unit (s := S256x4096) off S256x2048.size inb).toLoadRect hl) k) Q) := by
  rw [← rd_xg (inb := inb) m c g hg h]
  exact wp_load_rect 𝒱₀ (c : Thread nD τ) none Set.univ (m := xgM) (r := Rect.unit (s := S256x4096) off S256x2048.size inb)
    (Finset.Subset.antisymm_iff.mp (xgH_set (inb := inb) h)).1

theorem wp_ldr {Q : α → sProp 𝕄} (c : Dev nD) (ch : ℕ) {off : Fin 3 → Nat} {inb : ∀ a, off a + S1x2048x1024.size a ≤ S5x2048x1024.size a} (h : off = ![ch % 5, 0, 0])
    {hl} {k : Vec F S1x2048x1024 .bf16 → Prog (TpuEff nD τ sig (Elt F) Λ₀ .tc) α} :
    (rL c ↦[rSl (ch % 5)]{fullShare} rC m c ch) ⊢ iprop(((rL c ↦[rSl (ch % 5)]{fullShare} rC m c ch) -∗ run c (k (wc m c ch)) Q)
      -∗ run c (.op (.load rM (Rect.unit (s := S5x2048x1024) off S1x2048x1024.size inb).toLoadRect hl) k) Q) := by
  rw [← rd_r (inb := inb) m c ch h]
  exact wp_load_rect 𝒱₀ (c : Thread nD τ) none Set.univ (m := rM) (r := Rect.unit (s := S5x2048x1024) off S1x2048x1024.size inb)
    (Finset.Subset.antisymm_iff.mp (rS_set (inb := inb) h)).1

theorem wp_ldo {Q : α → sProp 𝕄} (c : Dev nD) (t : ℕ) (f : Vec F S256x8192 .f32) {off : Fin 2 → Nat} {inb : ∀ a, off a + S256x1024.size a ≤ S256x8192.size a} (h : off = ![0, 1024 * t])
    {hl} {k : Vec F S256x1024 .f32 → Prog (TpuEff nD τ sig (Elt F) Λ₀ .tc) α} :
    (oL c ↦[oTl t]{fullShare} f) ⊢ iprop(((oL c ↦[oTl t]{fullShare} f)
        -∗ run c (k ((oM.access (Rect.unit (s := S256x8192) off S256x1024.size inb)).read (Elt F) f)) Q)
      -∗ run c (.op (.load oM (Rect.unit (s := S256x8192) off S256x1024.size inb).toLoadRect hl) k) Q) :=
  wp_load_rect 𝒱₀ (c : Thread nD τ) none Set.univ (m := oM) (r := Rect.unit (s := S256x8192) off S256x1024.size inb)
    (Finset.Subset.antisymm_iff.mp (o_set (inb := inb) h)).1

/-- A tile stored: the accumulator there holds whatever every tile is given by. -/
theorem wp_sto {Q : α → sProp 𝕄} (c : Dev nD) (t : ℕ) (f : Vec F S256x8192 .f32) (T : ℕ → Vec F S256x1024 .f32) {off : Fin 2 → Nat} {inb : ∀ a, off a + S256x1024.size a ≤ S256x8192.size a} (h : off = ![0, 1024 * t])
    {hx hm} {k : PUnit.{1} → Prog (TpuEff nD τ sig (Elt F) Λ₀ .tc) α} :
    (oL c ↦[oTl t]{fullShare} f) ⊢ iprop(((oL c ↦[oTl t]{fullShare} (fun x => T ((x 1).val / 1024) (ValueIdx.ix2 (x 0) (Fin.ofNat 1024 (x 1).val)))) -∗ run c (k ⟨⟩) Q)
      -∗ run c (.op (.store oM (Rect.unit (s := S256x8192) off S256x1024.size inb) (T t) Finset.univ hx hm) k) Q) := by
  have e : ∀ i ∈ oTl t, (oM.access (Rect.unit (s := S256x8192) off S256x1024.size inb)).write (Elt F) f (T t) Finset.univ i
      = T ((i 1).val / 1024) (ValueIdx.ix2 (i 0) (Fin.ofNat 1024 (i 1).val)) := by
    intro i hi
    rw [← o_set (inb := inb) h] at hi
    obtain ⟨y, -, rfl⟩ := Finset.mem_map.mp hi
    exact (View.write_emb_of_mem _ _ (Finset.mem_univ _)).trans (o_emb' (inb := inb) h y T).symm
  have e2 : (oL c ↦[oTl t]{fullShare} (oM.access (Rect.unit (s := S256x8192) off S256x1024.size inb)).write (Elt F) f (T t) Finset.univ : sProp 𝕄)
      = (oL c ↦[oTl t]{fullShare} (fun x => T ((x 1).val / 1024) (ValueIdx.ix2 (x 0) (Fin.ofNat 1024 (x 1).val)))) := pointsTo_congr e
  rw [← e2]
  exact wp_store 𝒱₀ (c : Thread nD τ) none Set.univ (m := oM) (r := Rect.unit (s := S256x8192) off S256x1024.size inb) (Mk := Finset.univ)
    (Finset.Subset.antisymm_iff.mp (o_set (inb := inb) h)).1

/-! ## The device's own activations -/

theorem pay4_eq (v : Vec F S4096x256 .bf16) : k0_pay4 v = v := by
  show shapeCast S4096x256 (shapeCast S4096x256 v _) _ = v
  rw [shapeCast_self, shapeCast_self]
theorem pay5_eq (v : Vec F S256x256 .bf16) : k0_pay5 v = v := shapeCast_self v _

theorem zero2 : (![0, 0] : Fin 2 → Nat) = fun _ => 0 := by decide

/-- The staged activations copied into the buffer the remote copies read. -/
theorem wp_stage {Q : α → sProp 𝕄} (c : Dev nD) (x : Vec F S4096x256 .bf16) {inb1 inb2 inb3 : ∀ a, (![0, 0] : Fin 2 → Nat) a + S4096x256.size a ≤ S4096x256.size a} {hl1 hl2 hx hm}
    {k : PUnit.{1} → Prog (TpuEff nD τ sig (Elt F) Λ₀ .tc) α} :
    iprop((xM.view.loc (c : Thread nD τ) ↦[Finset.univ]{fullShare} x) ∗ (∃ f, xbL c ↦[Finset.univ]{fullShare} f))
      ⊢ iprop((((xM.view.loc (c : Thread nD τ) ↦[Finset.univ]{fullShare} x) ∗ (xbL c ↦[Finset.univ]{fullShare} x)) -∗ run c (k ⟨⟩) Q)
        -∗ run c (.op (.load xM (Rect.unit (s := S4096x256) ![0, 0] S4096x256.size inb1).toLoadRect hl1) fun v =>
          .op (.load xbM (Rect.unit (s := S4096x256) ![0, 0] S4096x256.size inb2).toLoadRect hl2) fun _ =>
            .op (.store xbM (Rect.unit (s := S4096x256) ![0, 0] S4096x256.size inb3) (k0_pay4 v) Finset.univ hx hm) k) Q) := by
  iintro ⟨Hx, ⟨%f, Hb⟩⟩ Hk
  iapply (wp_load 𝒱₀ (c : Thread nD τ) none Set.univ (m := xM) (Finset.subset_univ _)) $$ Hx
  iintro Hx
  iapply (wp_load 𝒱₀ (c : Thread nD τ) none Set.univ (m := xbM) (Finset.subset_univ _)) $$ Hb
  iintro Hb
  iapply (wp_store 𝒱₀ (c : Thread nD τ) none Set.univ (m := xbM) (r := Rect.unit (s := S4096x256) ![0, 0] S4096x256.size inb3) (Mk := Finset.univ) (Finset.subset_univ _)) $$ Hb
  iintro Hb
  iapply Hk
  isplitl [Hx]; · iexact Hx
  have e1 : xM.view.readAt (Elt F) (Rect.unit (s := S4096x256) ![0, 0] S4096x256.size inb1).toLoadRect x = x :=
    Memref.readAt_unit_zero (Elt F) cc0_stg0_0 zero2 inb1 x
  have e2 : (xbM.access (Rect.unit (s := S4096x256) ![0, 0] S4096x256.size inb3)).write (Elt F) f
      (k0_pay4 (xM.view.readAt (Elt F) (Rect.unit (s := S4096x256) ![0, 0] S4096x256.size inb1).toLoadRect x)) Finset.univ = x := by
    rw [e1, pay4_eq]
    exact Memref.write_access_unit_zero_univ (Elt F) cc0_scratch0 zero2 inb3 f x
  rw [e2]
  iexact Hb

/-- Column block 0 of the gathered activations is the device's own rows. -/
theorem wp_own {Q : α → sProp 𝕄} (c : Dev nD) {off : Fin 2 → Nat} {inb1 : ∀ a, off a + S256x256.size a ≤ S4096x256.size a}
    {inb2 inb3 : ∀ a, (![0, 0] : Fin 2 → Nat) a + S256x256.size a ≤ S256x4096.size a} (h : off = ![256 * c.val, 0]) {hl1 hl2 hx hm}
    {k : PUnit.{1} → Prog (TpuEff nD τ sig (Elt F) Λ₀ .tc) α} :
    iprop((xbL c ↦[xbBlk c.val]{fullShare} X m c) ∗ (∃ f, xgL c ↦[xgBlk 0]{fullShare} f))
      ⊢ iprop((((xbL c ↦[xbBlk c.val]{fullShare} X m c) ∗ (xgL c ↦[xgBlk 0]{fullShare} xgC m c)) -∗ run c (k ⟨⟩) Q)
        -∗ run c (.op (.load xbM (Rect.unit (s := S4096x256) off S256x256.size inb1).toLoadRect hl1) fun v =>
          .op (.load xgM (Rect.unit (s := S256x4096) ![0, 0] S256x256.size inb2).toLoadRect hl2) fun _ =>
            .op (.store xgM (Rect.unit (s := S256x4096) ![0, 0] S256x256.size inb3) (k0_pay5 v) Finset.univ hx hm) k) Q) := by
  have h0 : (![0, 0] : Fin 2 → Nat) = ![0, 256 * 0] := rfl
  iintro ⟨Hb, ⟨%f, Hg⟩⟩ Hk
  iapply (wp_load_rect 𝒱₀ (c : Thread nD τ) none Set.univ (m := xbM) (r := Rect.unit (s := S4096x256) off S256x256.size inb1)
    (Finset.Subset.antisymm_iff.mp (xb_set (inb := inb1) h)).1) $$ Hb
  iintro Hb
  iapply (wp_load_rect 𝒱₀ (c : Thread nD τ) none Set.univ (m := xgM) (r := Rect.unit (s := S256x4096) ![0, 0] S256x256.size inb2)
    (Finset.Subset.antisymm_iff.mp (xg_set (inb := inb2) h0)).1) $$ Hg
  iintro Hg
  iapply (wp_store 𝒱₀ (c : Thread nD τ) none Set.univ (m := xgM) (r := Rect.unit (s := S256x4096) ![0, 0] S256x256.size inb3) (Mk := Finset.univ)
    (Finset.Subset.antisymm_iff.mp (xg_set (inb := inb3) h0)).1) $$ Hg
  iintro Hg
  iapply Hk
  isplitl [Hb]; · iexact Hb
  have e : (xgL c ↦[xgBlk 0]{fullShare} (xgM.access (Rect.unit (s := S256x4096) ![0, 0] S256x256.size inb3)).write (Elt F) f
      (k0_pay5 ((xbM.access (Rect.unit (s := S4096x256) off S256x256.size inb1)).read (Elt F) (X m c))) Finset.univ : sProp 𝕄)
      = (xgL c ↦[xgBlk 0]{fullShare} xgC m c) := by
    rw [pay5_eq, ← xg_set (inb := inb3) h0]
    exact pointsTo_congr (copy_x m c c 0 (by decide) (dev_zero c) (inb := inb1) (inb' := inb3) h h0 f)
  iapply (Entails.of_eq e) $$ Hg

end Cert.KernelIdealProof

end
-- ==== Proof.Offs.lean ====
/-
The windows, semaphores and conditions of the body in closed form, and how its parts are put together.
-/
module

public import proofs.«01_k».proof.Proof.Chunks
public import proofs.«01_k».proof.Proof.Loads

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

/-! ## Where each copy reads and writes -/

theorem off1_w : ∀ (c : Dev nD) (r : Fin 40), k0_off1 c (k0_off1_at r).1 (k0_off1_at r).2.1 (k0_off1_at r).2.2
    = ![256 * wrow c (r.val / 8) (r.val % 8), 1024 * ((r.val / 8) % 8)] := by decide +kernel
theorem off8_w : ∀ (i : grid0.Coords) (c : Dev nD), k0_cond3 i = 1#1 → ∀ r : Fin 8, k0_off8 i c (k0_off8_at r).1 (k0_off8_at r).2
    = ![256 * wrow c ((i 0).val + 4) r.val, 1024 * (((i 0).val + 4) % 8)] := by decide +kernel
/-- Where the 256 columns of each block came from plays no part in waiting for it: only that the window lies inside. -/
theorem off26_w : ∀ i : grid0.Coords, k0_off26 i = ![0, 2048 * ((i 0).val / 8)] := by decide +kernel

theorem cond1_iff : ∀ i : grid0.Coords, k0_cond1 i = 1#1 ↔ (i 0).val = 0 := by decide +kernel
theorem cond2_iff : ∀ i : grid0.Coords, k0_cond2 i = 1#1 ↔ (i 0).val = 8 := by decide +kernel
theorem cond3_iff : ∀ i : grid0.Coords, k0_cond3 i = 1#1 ↔ 1 ≤ (i 0).val ∧ (i 0).val < 12 := by decide +kernel
theorem cond4_iff : ∀ i : grid0.Coords, k0_cond4 i = 1#1 ↔ (i 0).val < 8 := by decide +kernel
theorem cond5_iff : ∀ i : grid0.Coords, k0_cond5 i = 1#1 ↔ 8 ≤ (i 0).val := by decide +kernel
theorem cond6_iff : ∀ i : grid0.Coords, k0_cond6 i = 1#1 ↔ (i 0).val = 15 := by decide +kernel

/-! ## The semaphores named by position -/

abbrev rSem (off : Fin 1 → Nat) (inb : ∀ a, off a + S1.size a ≤ S5.size a) : DmaSem sig :=
  ((cc0_scratch4.slice (Rect.unit (s := S5) off S1.size inb)).squeeze S_ squeezes_S1_S_).sem
abbrev oSem (off : Fin 1 → Nat) (inb : ∀ a, off a + S1.size a ≤ S8.size a) : DmaSem sig :=
  ((cc0_scratch5.slice (Rect.unit (s := S8) off S1.size inb)).squeeze S_ squeezes_S1_S_).sem

theorem rSem_inb : ∀ (k : Fin 5) (a : Fin 1), (![k.val] : Fin 1 → Nat) a + S1.size a ≤ S5.size a := by decide
theorem rSem_at : ∀ k : Fin 5, (rSem ![k.val] (rSem_inb k)).val = 1 + k.val := by decide +kernel
theorem rSem_eq {off : Fin 1 → Nat} {inb} {k : ℕ} (h : off = ![k % 5]) : rSem off inb = ringS k := by
  have hk := Nat.mod_lt k (by decide : 0 < 5)
  have e : ∀ k' < 5, off = ![k'] → (rSem off inb).val = 1 + k' := by
    intro k' h' e; subst e
    exact rSem_at ⟨k', h'⟩
  exact Fin.ext (e _ hk h)
theorem oSem_inb : ∀ (k : Fin 8) (a : Fin 1), (![k.val] : Fin 1 → Nat) a + S1.size a ≤ S8.size a := by decide
theorem oSem_at : ∀ k : Fin 8, (oSem ![k.val] (oSem_inb k)).val = 6 + k.val := by decide +kernel
theorem oSem_eq {off : Fin 1 → Nat} {inb} {k : ℕ} (h : off = ![k % 8]) : oSem off inb = outS k := by
  have hk := Nat.mod_lt k (by decide : 0 < 8)
  have e : ∀ k' < 8, off = ![k'] → (oSem off inb).val = 6 + k' := by
    intro k' h' e; subst e
    exact oSem_at ⟨k', h'⟩
  exact Fin.ext (e _ hk h)

/-- A window is credited by its size alone. -/
theorem dmaCredit_rSq {off : Fin 3 → Nat} {inb} : (rSq off inb).view.dmaCredit = Nw := rfl
theorem dmaCredit_xgSl {off : Fin 2 → Nat} {inb} : (xgSl off inb).view.dmaCredit = N := rfl
theorem dmaCredit_xbSl {off : Fin 2 → Nat} {inb} : (xbSl off inb).view.dmaCredit = N := rfl
theorem dmaCredit_ySl {off : Fin 2 → Nat} {inb} : (ySl off inb).view.dmaCredit = No := rfl

/-! ## A part of the program, then the rest -/

theorem run_seq {α β : Type} {Q : α → sProp 𝕄} {P P' : sProp 𝕄} (c : Dev nD) {p : Prog (TpuEff nD τ sig (Elt F) Λ₀ .tc) β}
    {k : β → Prog (TpuEff nD τ sig (Elt F) Λ₀ .tc) α} (h : P ⊢ run c p (fun _ => P')) :
    P ⊢ iprop((∀ r, P' -∗ run c (k r) Q) -∗ run c (p >>= k) Q) := by
  rw [show run c (p >>= k) Q = run c p (fun r => run c (k r) Q) from wp_bind _ _ _ _ _ _]
  exact h.trans (wp_wand _ _ _)

end Cert.KernelIdealProof

end
-- ==== Proof.Issue.lean ====
/-
The first point's issues of the weights' first five chunks, part by part.
-/
module

public import proofs.«01_k».proof.Proof.Offs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

/-- A part of the body on the launch's operands: the staged activations `a1`, everything else its own buffer. -/
abbrev atArgs {β : Type 1} (p : (arg1 : Memref sig .tc .vmem S4096x256 .bf16) → arg1.IsWhole → (arg2 : Memref sig .tc .hbm S4096x8192 .bf16) → arg2.IsWhole
    → (arg3 : Memref sig .tc .hbm S256x8192 .f32) → arg3.IsWhole → (arg4 : Memref sig .tc .vmem S4096x256 .bf16) → arg4.IsWhole
    → (arg5 : Memref sig .tc .vmem S256x4096 .bf16) → arg5.IsWhole → (arg6 : Memref sig .tc .vmem S256x8192 .f32) → arg6.IsWhole
    → (arg7 : Memref sig .tc .vmem S5x2048x1024 .bf16) → arg7.IsWhole → DmaSems sig S5 → DmaSems sig S8 → DmaSems sig S16 → DmaSems sig S16 → β)
    (a1 : Memref sig .tc .vmem S4096x256 .bf16) (h1 : a1.IsWhole) : β :=
  p a1 h1 wM (Memref.isWhole_whole _) yM (Memref.isWhole_whole _) xbM (Memref.isWhole_whole _) xgM (Memref.isWhole_whole _)
    oM (Memref.isWhole_whole _) rM (Memref.isWhole_whole _) cc0_scratch4 cc0_scratch5 cc0_scratch6 cc0_scratch7

variable (c : Dev nD) (i : grid0.Coords) (h : k0_cond1 i = 1#1) (a1 : Memref sig .tc .vmem S4096x256 .bf16) (ha : a1.IsWhole)

/-! ## Point 0: the first five chunks issued -/

/-- A finished program gives back what it holds. -/
theorem run_ret {α : Type} (r : α) (P : sProp 𝕄) : P ⊢ run c (.ret r) (fun _ => P) := by
  unfold run; rw [wp_ret]; exact fupd_intro

theorem part2_run (v2 w0 w2 : BitVec 32) (w1 : BitVec 1) :
    IssSt m c 0 0 ⊢ run c (atArgs (k0_part2 (F := F) i) a1 ha c v2 h w0 w1 w2) (fun _ => IssSt m c 0 2) := by
  unfold atArgs
  simp only [k0_part2_eq_skeleton]; unfold k0_part2_skel
  simp only [Prog.lift, Prog.bind_op, Prog.bind_ret, Prog.pure_eq_ret]
  iintro H
  iapply (wp_issue m c 0 (j := 0) (by decide) (off1_w c 0) rfl (rSem_eq rfl)) $$ H; iintro H
  iapply (wp_issue m c 0 (j := 1) (by decide) (off1_w c 1) rfl (rSem_eq rfl)) $$ H; iintro H
  iapply (run_ret c _ _) $$ H
theorem part3_run (v2 : BitVec 32) :
    IssSt m c 0 2 ⊢ run c (atArgs (k0_part3 (F := F) i) a1 ha c v2 h) (fun _ => IssSt m c 0 8) := by
  unfold atArgs
  simp only [k0_part3_eq_skeleton]; unfold k0_part3_skel
  simp only [Prog.lift, Prog.bind_op, Prog.bind_ret, Prog.pure_eq_ret]
  iintro H
  iapply (wp_issue m c 0 (j := 2) (by decide) (off1_w c 2) rfl (rSem_eq rfl)) $$ H; iintro H
  iapply (wp_issue m c 0 (j := 3) (by decide) (off1_w c 3) rfl (rSem_eq rfl)) $$ H; iintro H
  iapply (wp_issue m c 0 (j := 4) (by decide) (off1_w c 4) rfl (rSem_eq rfl)) $$ H; iintro H
  iapply (wp_issue m c 0 (j := 5) (by decide) (off1_w c 5) rfl (rSem_eq rfl)) $$ H; iintro H
  iapply (wp_issue m c 0 (j := 6) (by decide) (off1_w c 6) rfl (rSem_eq rfl)) $$ H; iintro H
  iapply (wp_issue m c 0 (j := 7) (by decide) (off1_w c 7) rfl (rSem_eq rfl)) $$ H; iintro H
  iapply (run_ret c _ _) $$ H
theorem part5_run (v2 w0 : BitVec 32) :
    IssSt m c 1 0 ⊢ run c (atArgs (k0_part5 (F := F) i) a1 ha c v2 h w0) (fun _ => IssSt m c 1 3) := by
  unfold atArgs
  simp only [k0_part5_eq_skeleton]; unfold k0_part5_skel
  simp only [Prog.lift, Prog.bind_op, Prog.bind_ret, Prog.pure_eq_ret]
  iintro H
  iapply (wp_issue m c 1 (j := 0) (by decide) (off1_w c 8) rfl (rSem_eq rfl)) $$ H; iintro H
  iapply (wp_issue m c 1 (j := 1) (by decide) (off1_w c 9) rfl (rSem_eq rfl)) $$ H; iintro H
  iapply (wp_issue m c 1 (j := 2) (by decide) (off1_w c 10) rfl (rSem_eq rfl)) $$ H; iintro H
  iapply (run_ret c _ _) $$ H
theorem part6_run (v2 : BitVec 32) :
    IssSt m c 1 3 ⊢ run c (atArgs (k0_part6 (F := F) i) a1 ha c v2 h) (fun _ => IssSt m c 1 8) := by
  unfold atArgs
  simp only [k0_part6_eq_skeleton]; unfold k0_part6_skel
  simp only [Prog.lift, Prog.bind_op, Prog.bind_ret, Prog.pure_eq_ret]
  iintro H
  iapply (wp_issue m c 1 (j := 3) (by decide) (off1_w c 11) rfl (rSem_eq rfl)) $$ H; iintro H
  iapply (wp_issue m c 1 (j := 4) (by decide) (off1_w c 12) rfl (rSem_eq rfl)) $$ H; iintro H
  iapply (wp_issue m c 1 (j := 5) (by decide) (off1_w c 13) rfl (rSem_eq rfl)) $$ H; iintro H
  iapply (wp_issue m c 1 (j := 6) (by decide) (off1_w c 14) rfl (rSem_eq rfl)) $$ H; iintro H
  iapply (wp_issue m c 1 (j := 7) (by decide) (off1_w c 15) rfl (rSem_eq rfl)) $$ H; iintro H
  iapply (run_ret c _ _) $$ H
theorem part8_run (v2 w0 : BitVec 32) :
    IssSt m c 2 0 ⊢ run c (atArgs (k0_part8 (F := F) i) a1 ha c v2 h w0) (fun _ => IssSt m c 2 4) := by
  unfold atArgs
  simp only [k0_part8_eq_skeleton]; unfold k0_part8_skel
  simp only [Prog.lift, Prog.bind_op, Prog.bind_ret, Prog.pure_eq_ret]
  iintro H
  iapply (wp_issue m c 2 (j := 0) (by decide) (off1_w c 16) rfl (rSem_eq rfl)) $$ H; iintro H
  iapply (wp_issue m c 2 (j := 1) (by decide) (off1_w c 17) rfl (rSem_eq rfl)) $$ H; iintro H
  iapply (wp_issue m c 2 (j := 2) (by decide) (off1_w c 18) rfl (rSem_eq rfl)) $$ H; iintro H
  iapply (wp_issue m c 2 (j := 3) (by decide) (off1_w c 19) rfl (rSem_eq rfl)) $$ H; iintro H
  iapply (run_ret c _ _) $$ H
theorem part9_run (v2 : BitVec 32) :
    IssSt m c 2 4 ⊢ run c (atArgs (k0_part9 (F := F) i) a1 ha c v2 h) (fun _ => IssSt m c 2 8) := by
  unfold atArgs
  simp only [k0_part9_eq_skeleton]; unfold k0_part9_skel
  simp only [Prog.lift, Prog.bind_op, Prog.bind_ret, Prog.pure_eq_ret]
  iintro H
  iapply (wp_issue m c 2 (j := 4) (by decide) (off1_w c 20) rfl (rSem_eq rfl)) $$ H; iintro H
  iapply (wp_issue m c 2 (j := 5) (by decide) (off1_w c 21) rfl (rSem_eq rfl)) $$ H; iintro H
  iapply (wp_issue m c 2 (j := 6) (by decide) (off1_w c 22) rfl (rSem_eq rfl)) $$ H; iintro H
  iapply (wp_issue m c 2 (j := 7) (by decide) (off1_w c 23) rfl (rSem_eq rfl)) $$ H; iintro H
  iapply (run_ret c _ _) $$ H
theorem part11_run (w0 w1 : BitVec 32) :
    IssSt m c 3 0 ⊢ run c (atArgs (k0_part11 (F := F) i) a1 ha c h w0 w1) (fun _ => IssSt m c 3 5) := by
  unfold atArgs
  simp only [k0_part11_eq_skeleton]; unfold k0_part11_skel
  simp only [Prog.lift, Prog.bind_op, Prog.bind_ret, Prog.pure_eq_ret]
  iintro H
  iapply (wp_issue m c 3 (j := 0) (by decide) (off1_w c 24) rfl (rSem_eq rfl)) $$ H; iintro H
  iapply (wp_issue m c 3 (j := 1) (by decide) (off1_w c 25) rfl (rSem_eq rfl)) $$ H; iintro H
  iapply (wp_issue m c 3 (j := 2) (by decide) (off1_w c 26) rfl (rSem_eq rfl)) $$ H; iintro H
  iapply (wp_issue m c 3 (j := 3) (by decide) (off1_w c 27) rfl (rSem_eq rfl)) $$ H; iintro H
  iapply (wp_issue m c 3 (j := 4) (by decide) (off1_w c 28) rfl (rSem_eq rfl)) $$ H; iintro H
  iapply (run_ret c _ _) $$ H
theorem part12_run (v2 : BitVec 32) :
    IssSt m c 3 5 ⊢ run c (atArgs (k0_part12 (F := F) i) a1 ha c v2 h) (fun _ => IssSt m c 3 8) := by
  unfold atArgs
  simp only [k0_part12_eq_skeleton]; unfold k0_part12_skel
  simp only [Prog.lift, Prog.bind_op, Prog.bind_ret, Prog.pure_eq_ret]
  iintro H
  iapply (wp_issue m c 3 (j := 5) (by decide) (off1_w c 29) rfl (rSem_eq rfl)) $$ H; iintro H
  iapply (wp_issue m c 3 (j := 6) (by decide) (off1_w c 30) rfl (rSem_eq rfl)) $$ H; iintro H
  iapply (wp_issue m c 3 (j := 7) (by decide) (off1_w c 31) rfl (rSem_eq rfl)) $$ H; iintro H
  iapply (run_ret c _ _) $$ H
theorem part14_run :
    IssSt m c 4 0 ⊢ run c (atArgs (k0_part14 (F := F) i) a1 ha c h) (fun _ => IssSt m c 4 6) := by
  unfold atArgs
  simp only [k0_part14_eq_skeleton]; unfold k0_part14_skel
  simp only [Prog.lift, Prog.bind_op, Prog.bind_ret, Prog.pure_eq_ret]
  iintro H
  iapply (wp_issue m c 4 (j := 0) (by decide) (off1_w c 32) rfl (rSem_eq rfl)) $$ H; iintro H
  iapply (wp_issue m c 4 (j := 1) (by decide) (off1_w c 33) rfl (rSem_eq rfl)) $$ H; iintro H
  iapply (wp_issue m c 4 (j := 2) (by decide) (off1_w c 34) rfl (rSem_eq rfl)) $$ H; iintro H
  iapply (wp_issue m c 4 (j := 3) (by decide) (off1_w c 35) rfl (rSem_eq rfl)) $$ H; iintro H
  iapply (wp_issue m c 4 (j := 4) (by decide) (off1_w c 36) rfl (rSem_eq rfl)) $$ H; iintro H
  iapply (wp_issue m c 4 (j := 5) (by decide) (off1_w c 37) rfl (rSem_eq rfl)) $$ H; iintro H
  iapply (run_ret c _ _) $$ H

end Cert.KernelIdealProof

end
-- ==== Proof.Meet.lean ====
/-
The first point's exchange, part by part: the barrier, the rows sent, the blocks received.
-/
module

public import proofs.«01_k».proof.Proof.Issue

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 31 → ℕ)
variable (c : Dev nD) (i : grid0.Coords) (h : k0_cond1 i = 1#1) (a1 : Memref sig .tc .vmem S4096x256 .bf16) (ha : a1.IsWhole)

/-! ## The exchange's semaphores and source rows -/

abbrev sSem (off : Fin 1 → Nat) (inb : ∀ a, off a + S1.size a ≤ S16.size a) : DmaSem sig :=
  ((cc0_scratch6.slice (Rect.unit (s := S16) off S1.size inb)).squeeze S_ squeezes_S1_S_).sem
abbrev vSem (off : Fin 1 → Nat) (inb : ∀ a, off a + S1.size a ≤ S16.size a) : DmaSem sig :=
  ((cc0_scratch7.slice (Rect.unit (s := S16) off S1.size inb)).squeeze S_ squeezes_S1_S_).sem

theorem sSem_inb : ∀ (k : Fin 16) (a : Fin 1), (![k.val] : Fin 1 → Nat) a + S1.size a ≤ S16.size a := by decide
theorem sSem_at : ∀ k : Fin 16, sSem ![k.val] (sSem_inb k) = sendS k.val := by decide +kernel
theorem vSem_at : ∀ k : Fin 16, vSem ![k.val] (sSem_inb k) = recvS k.val := by decide +kernel

theorem off2_w : ∀ (c : Dev nD) (i : Fin 16), i.val ∈ Finset.Ico 1 16 →
    k0_off2 c (BitVec.ofNat 32 (perm i.val)) = ![256 * ((c.val + (16 - perm i.val)) % 16), 0] := by decide +kernel

/-! ## Part by part -/

theorem run_seq' {α β : Type} {Q : α → sProp 𝕄} {P : sProp 𝕄} {P' : β → sProp 𝕄} {p : Prog (TpuEff nD τ sig (Elt F) Λ₀ .tc) β}
    {k : β → Prog (TpuEff nD τ sig (Elt F) Λ₀ .tc) α} (h : P ⊢ run c p P') :
    P ⊢ iprop((∀ r, P' r -∗ run c (k r) Q) -∗ run c (p >>= k) Q) := by
  rw [show run c (p >>= k) Q = run c p (fun r => run c (k r) Q) from wp_bind _ _ _ _ _ _]
  exact h.trans (wp_wand _ _ _)

theorem part15_run (v2 : BitVec 32) (Wt : Waits sig Unit) :
    iprop(records m K ∗ IssSt m c 4 6 ∗ SigSt c 1 Wt) ⊢ run c (atArgs (k0_part15 (F := F) i) a1 ha c v2 h)
      (fun r => iprop(⌜r.1 = SemArray.scalar (sig.barrier 0 rfl)⌝ ∗ IssSt m c 4 8 ∗ SigSt c 5 Wt)) := by
  unfold atArgs
  simp only [k0_part15_eq_skeleton]; unfold k0_part15_skel
  simp only [semSignalWord, Prog.lift, Prog.bind_op, Prog.bind_ret, Prog.pure_eq_ret]
  iintro ⟨#HR, HI, H⟩
  iapply (wp_issue m c 4 (j := 6) (by decide) (off1_w c 38) rfl (rSem_eq rfl)) $$ HI; iintro HI
  iapply (wp_issue m c 4 (j := 7) (by decide) (off1_w c 39) rfl (rSem_eq rfl)) $$ HI; iintro HI
  iapply (wp_sig m K c (d := 1) (by decide) (e := ⟨k0_dev1 c, k0_dev1_lt i c h⟩) (k0_dev1_eq c) rfl) $$ [$HR $H]; iintro H
  iapply (wp_sig m K c (d := 2) (by decide) (e := ⟨k0_dev2 c, k0_dev2_lt i c h⟩) (k0_dev2_eq c) rfl) $$ [$HR $H]; iintro H
  iapply (wp_sig m K c (d := 3) (by decide) (e := ⟨k0_dev3 c, k0_dev3_lt i c h⟩) (k0_dev3_eq c) rfl) $$ [$HR $H]; iintro H
  iapply (wp_sig m K c (d := 4) (by decide) (e := ⟨k0_dev4 c, k0_dev4_lt i c h⟩) (k0_dev4_eq c) rfl) $$ [$HR $H]; iintro H
  unfold run; rw [wp_ret]; imodintro
  isplitr; · (ipureintro; rfl)
  isplitl [HI]; · iexact HI
  iexact H

theorem part16_run (v2 w : BitVec 32) (b : Sems sig S_) (hb : b = SemArray.scalar (sig.barrier 0 rfl)) (Wt : Waits sig Unit) :
    iprop(records m K ∗ SigSt c 5 Wt) ⊢ run c (atArgs (k0_part16 (F := F) i) a1 ha c v2 h b w) (fun _ => SigSt c 11 Wt) := by
  subst hb
  unfold atArgs
  simp only [k0_part16_eq_skeleton]; unfold k0_part16_skel
  simp only [semSignalWord, Prog.lift, Prog.bind_op, Prog.bind_ret, Prog.pure_eq_ret]
  iintro ⟨#HR, H⟩
  iapply (wp_sig m K c (d := 5) (by decide) (e := ⟨k0_dev5 c, k0_dev5_lt i c h⟩) (k0_dev5_eq c) rfl) $$ [$HR $H]; iintro H
  iapply (wp_sig m K c (d := 6) (by decide) (e := ⟨k0_dev6 c, k0_dev6_lt i c h⟩) (k0_dev6_eq c) rfl) $$ [$HR $H]; iintro H
  iapply (wp_sig m K c (d := 7) (by decide) (e := ⟨k0_dev7 c, k0_dev7_lt i c h⟩) (k0_dev7_eq c) rfl) $$ [$HR $H]; iintro H
  iapply (wp_sig m K c (d := 8) (by decide) (e := ⟨k0_dev8 c, k0_dev8_lt i c h⟩) (k0_dev8_eq c) rfl) $$ [$HR $H]; iintro H
  iapply (wp_sig m K c (d := 9) (by decide) (e := ⟨k0_dev9 c, k0_dev9_lt i c h⟩) (k0_dev9_eq c) rfl) $$ [$HR $H]; iintro H
  iapply (wp_sig m K c (d := 10) (by decide) (e := ⟨k0_dev10 c, k0_dev10_lt i c h⟩) (k0_dev10_eq c) rfl) $$ [$HR $H]; iintro H
  iapply (run_ret c _ _) $$ H

theorem part17_run (hx : xM.IsWhole) (v2 w : BitVec 32) (b : Sems sig S_) (hb : b = SemArray.scalar (sig.barrier 0 rfl)) (x : Vec F S4096x256 .bf16) (Wt : Waits sig Unit) :
    iprop(records m K ∗ levAts L lv ∗ SigSt c 11 Wt ∗ (cred (tallyAt (barCell c) () 15) ∗ atPos ER (barCell c) 0 ∅ 0)
        ∗ (xM.view.loc (c : Thread nD τ) ↦[Finset.univ]{fullShare} x) ∗ ∃ f, xbL c ↦[Finset.univ]{fullShare} f)
      ⊢ run c (atArgs (k0_part17 (F := F) i) xM hx c v2 h b w)
          (fun _ => iprop(((∃ Wt', owes (c : Thread nD τ) (debt c 1 16) Wt') ∗ bigSep (Finset.Ico 1 16) (barPay (F := F) c) ∗ semVal (barCell c) 0)
            ∗ (xM.view.loc (c : Thread nD τ) ↦[Finset.univ]{fullShare} x) ∗ xbL c ↦[Finset.univ]{fullShare} x)) := by
  subst hb
  unfold atArgs
  simp only [k0_part17_eq_skeleton]; unfold k0_part17_skel
  simp only [semSignalWord, semWaitWord, Prog.lift, Prog.bind_op, Prog.bind_ret, Prog.pure_eq_ret]
  iintro ⟨#HR, #HL, H, ⟨Hc, Ha⟩, HX⟩
  iapply (wp_sig m K c (d := 11) (by decide) (e := ⟨k0_dev11 c, k0_dev11_lt i c h⟩) (k0_dev11_eq c) rfl) $$ [$HR $H]; iintro H
  iapply (wp_sig m K c (d := 12) (by decide) (e := ⟨k0_dev12 c, k0_dev12_lt i c h⟩) (k0_dev12_eq c) rfl) $$ [$HR $H]; iintro H
  iapply (wp_sig m K c (d := 13) (by decide) (e := ⟨k0_dev13 c, k0_dev13_lt i c h⟩) (k0_dev13_eq c) rfl) $$ [$HR $H]; iintro H
  iapply (wp_sig m K c (d := 14) (by decide) (e := ⟨k0_dev14 c, k0_dev14_lt i c h⟩) (k0_dev14_eq c) rfl) $$ [$HR $H]; iintro H
  iapply (wp_sig m K c (d := 15) (by decide) (e := ⟨k0_dev15 c, k0_dev15_lt i c h⟩) (k0_dev15_eq c) rfl) $$ [$HR $H]; iintro H
  iapply (wp_stage c x) $$ HX; iintro HX
  ihave H' := (show SigSt (F := F) c 16 Wt ⊢ owes (c : Thread nD τ) (debt c 1 16) Wt by
    unfold SigSt; rw [fam_nil]; iintro ⟨H, -⟩; iexact H) $$ H
  iapply (wp_bar m K c rfl) $$ [$HR $HL $H' $Hc $Ha]; iintro H
  iapply (run_ret c _ _) $$ [H HX]
  isplitl [H]; · iexact H
  iexact HX

theorem part18_run (v2 w0 : BitVec 32) (Wt : Waits sig Unit) :
    iprop(records m K ∗ SndSt m c 1 Wt) ⊢ run c (atArgs (k0_part18 (F := F) i) a1 ha c v2 h w0) (fun _ => SndSt m c 3 Wt) := by
  unfold atArgs
  simp only [k0_part18_eq_skeleton]; unfold k0_part18_skel
  simp only [Prog.lift, Prog.bind_op, Prog.bind_ret, Prog.pure_eq_ret]
  iintro ⟨#HR, H⟩
  iapply (wp_snd m K c (i := 1) (by decide) (e := ⟨k0_dev16 c, k0_dev16_lt i c h⟩) (k0_dev16_eq c) (off2_w c 1 (by decide)) rfl (sSem_at 1) (vSem_at 1)) $$ [$HR $H]; iintro H
  iapply (wp_snd m K c (i := 2) (by decide) (e := ⟨k0_dev17 c, k0_dev17_lt i c h⟩) (k0_dev17_eq c) (off2_w c 2 (by decide)) rfl (sSem_at 2) (vSem_at 2)) $$ [$HR $H]; iintro H
  iapply (run_ret c _ _) $$ H

theorem part19_run (v2 w0 w1 : BitVec 32) (Wt : Waits sig Unit) :
    iprop(records m K ∗ SndSt m c 3 Wt) ⊢ run c (atArgs (k0_part19 (F := F) i) a1 ha c v2 h w0 w1) (fun _ => SndSt m c 6 Wt) := by
  unfold atArgs
  simp only [k0_part19_eq_skeleton]; unfold k0_part19_skel
  simp only [Prog.lift, Prog.bind_op, Prog.bind_ret, Prog.pure_eq_ret]
  iintro ⟨#HR, H⟩
  iapply (wp_snd m K c (i := 3) (by decide) (e := ⟨k0_dev18 c, k0_dev18_lt i c h⟩) (k0_dev18_eq c) (off2_w c 3 (by decide)) rfl (sSem_at 3) (vSem_at 3)) $$ [$HR $H]; iintro H
  iapply (wp_snd m K c (i := 4) (by decide) (e := ⟨k0_dev19 c, k0_dev19_lt i c h⟩) (k0_dev19_eq c) (off2_w c 4 (by decide)) rfl (sSem_at 4) (vSem_at 4)) $$ [$HR $H]; iintro H
  iapply (wp_snd m K c (i := 5) (by decide) (e := ⟨k0_dev20 c, k0_dev20_lt i c h⟩) (k0_dev20_eq c) (off2_w c 5 (by decide)) rfl (sSem_at 5) (vSem_at 5)) $$ [$HR $H]; iintro H
  iapply (run_ret c _ _) $$ H

theorem part20_run (v2 w0 : BitVec 32) (Wt : Waits sig Unit) :
    iprop(records m K ∗ SndSt m c 6 Wt) ⊢ run c (atArgs (k0_part20 (F := F) i) a1 ha c v2 h w0) (fun _ => SndSt m c 8 Wt) := by
  unfold atArgs
  simp only [k0_part20_eq_skeleton]; unfold k0_part20_skel
  simp only [Prog.lift, Prog.bind_op, Prog.bind_ret, Prog.pure_eq_ret]
  iintro ⟨#HR, H⟩
  iapply (wp_snd m K c (i := 6) (by decide) (e := ⟨k0_dev21 c, k0_dev21_lt i c h⟩) (k0_dev21_eq c) (off2_w c 6 (by decide)) rfl (sSem_at 6) (vSem_at 6)) $$ [$HR $H]; iintro H
  iapply (wp_snd m K c (i := 7) (by decide) (e := ⟨k0_dev22 c, k0_dev22_lt i c h⟩) (k0_dev22_eq c) (off2_w c 7 (by decide)) rfl (sSem_at 7) (vSem_at 7)) $$ [$HR $H]; iintro H
  iapply (run_ret c _ _) $$ H

theorem part21_run (v2 w0 w1 : BitVec 32) (Wt : Waits sig Unit) :
    iprop(records m K ∗ SndSt m c 8 Wt) ⊢ run c (atArgs (k0_part21 (F := F) i) a1 ha c v2 h w0 w1) (fun _ => SndSt m c 11 Wt) := by
  unfold atArgs
  simp only [k0_part21_eq_skeleton]; unfold k0_part21_skel
  simp only [Prog.lift, Prog.bind_op, Prog.bind_ret, Prog.pure_eq_ret]
  iintro ⟨#HR, H⟩
  iapply (wp_snd m K c (i := 8) (by decide) (e := ⟨k0_dev23 c, k0_dev23_lt i c h⟩) (k0_dev23_eq c) (off2_w c 8 (by decide)) rfl (sSem_at 8) (vSem_at 8)) $$ [$HR $H]; iintro H
  iapply (wp_snd m K c (i := 9) (by decide) (e := ⟨k0_dev24 c, k0_dev24_lt i c h⟩) (k0_dev24_eq c) (off2_w c 9 (by decide)) rfl (sSem_at 9) (vSem_at 9)) $$ [$HR $H]; iintro H
  iapply (wp_snd m K c (i := 10) (by decide) (e := ⟨k0_dev25 c, k0_dev25_lt i c h⟩) (k0_dev25_eq c) (off2_w c 10 (by decide)) rfl (sSem_at 10) (vSem_at 10)) $$ [$HR $H]; iintro H
  iapply (run_ret c _ _) $$ H

theorem part22_run (v2 w0 : BitVec 32) (Wt : Waits sig Unit) :
    iprop(records m K ∗ SndSt m c 11 Wt) ⊢ run c (atArgs (k0_part22 (F := F) i) a1 ha c v2 h w0) (fun _ => SndSt m c 13 Wt) := by
  unfold atArgs
  simp only [k0_part22_eq_skeleton]; unfold k0_part22_skel
  simp only [Prog.lift, Prog.bind_op, Prog.bind_ret, Prog.pure_eq_ret]
  iintro ⟨#HR, H⟩
  iapply (wp_snd m K c (i := 11) (by decide) (e := ⟨k0_dev26 c, k0_dev26_lt i c h⟩) (k0_dev26_eq c) (off2_w c 11 (by decide)) rfl (sSem_at 11) (vSem_at 11)) $$ [$HR $H]; iintro H
  iapply (wp_snd m K c (i := 12) (by decide) (e := ⟨k0_dev27 c, k0_dev27_lt i c h⟩) (k0_dev27_eq c) (off2_w c 12 (by decide)) rfl (sSem_at 12) (vSem_at 12)) $$ [$HR $H]; iintro H
  iapply (run_ret c _ _) $$ H

theorem part23_run (v2 w0 w1 : BitVec 32) (Wt : Waits sig Unit) :
    iprop(records m K ∗ SndSt m c 13 Wt) ⊢ run c (atArgs (k0_part23 (F := F) i) a1 ha c v2 h w0 w1) (fun _ => SndSt m c 16 Wt) := by
  unfold atArgs
  simp only [k0_part23_eq_skeleton]; unfold k0_part23_skel
  simp only [Prog.lift, Prog.bind_op, Prog.bind_ret, Prog.pure_eq_ret]
  iintro ⟨#HR, H⟩
  iapply (wp_snd m K c (i := 13) (by decide) (e := ⟨k0_dev28 c, k0_dev28_lt i c h⟩) (k0_dev28_eq c) (off2_w c 13 (by decide)) rfl (sSem_at 13) (vSem_at 13)) $$ [$HR $H]; iintro H
  iapply (wp_snd m K c (i := 14) (by decide) (e := ⟨k0_dev29 c, k0_dev29_lt i c h⟩) (k0_dev29_eq c) (off2_w c 14 (by decide)) rfl (sSem_at 14) (vSem_at 14)) $$ [$HR $H]; iintro H
  iapply (wp_snd m K c (i := 15) (by decide) (e := ⟨k0_dev30 c, k0_dev30_lt i c h⟩) (k0_dev30_eq c) (off2_w c 15 (by decide)) rfl (sSem_at 15) (vSem_at 15)) $$ [$HR $H]; iintro H
  iapply (run_ret c _ _) $$ H

theorem part24_run (v2 w : BitVec 32) :
    iprop(records m K ∗ (owes0 c ∗ RcvSt m c 1) ∗ (xbL c ↦[xbBlk c.val]{fullShare} X m c) ∗ (∃ f, xgL c ↦[xgBlk 0]{fullShare} f))
      ⊢ run c (atArgs (k0_part24 (F := F) i) a1 ha c v2 h w)
          (fun _ => iprop((owes0 c ∗ RcvSt m c 3) ∗ (xbL c ↦[xbBlk c.val]{fullShare} X m c) ∗ (xgL c ↦[xgBlk 0]{fullShare} xgC m c))) := by
  unfold atArgs
  simp only [k0_part24_eq_skeleton]; unfold k0_part24_skel
  simp only [Prog.lift, Prog.bind_op, Prog.bind_ret, Prog.pure_eq_ret]
  iintro ⟨#HR, ⟨HO, H⟩, HB⟩
  iapply (wp_own m c (k0_off3_eq c)) $$ HB; iintro HB
  iapply (wp_rcv m K c (i := 1) (by decide) (vSem_at 1) dmaCredit_xgSl) $$ [$HR $HO $H]; iintro ⟨HO, H⟩
  iapply (wp_rcv m K c (i := 2) (by decide) (vSem_at 2) dmaCredit_xgSl) $$ [$HR $HO $H]; iintro ⟨HO, H⟩
  iapply (run_ret c _ _) $$ [HO H HB]
  isplitl [HO H]
  · isplitl [HO]; · iexact HO
    iexact H
  iexact HB

theorem part25_run (v2 : BitVec 32) :
    iprop(records m K ∗ (owes0 c ∗ RcvSt m c 3)) ⊢ run c (atArgs (k0_part25 (F := F) i) a1 ha c v2 h) (fun _ => iprop(owes0 c ∗ RcvSt m c 6)) := by
  unfold atArgs
  simp only [k0_part25_eq_skeleton]; unfold k0_part25_skel
  simp only [Prog.lift, Prog.bind_op, Prog.bind_ret, Prog.pure_eq_ret]
  iintro ⟨#HR, HO, H⟩
  iapply (wp_rcv m K c (i := 3) (by decide) (vSem_at 3) dmaCredit_xgSl) $$ [$HR $HO $H]; iintro ⟨HO, H⟩
  iapply (wp_rcv m K c (i := 4) (by decide) (vSem_at 4) dmaCredit_xgSl) $$ [$HR $HO $H]; iintro ⟨HO, H⟩
  iapply (wp_rcv m K c (i := 5) (by decide) (vSem_at 5) dmaCredit_xgSl) $$ [$HR $HO $H]; iintro ⟨HO, H⟩
  iapply (run_ret c _ _) $$ [HO H]
  isplitl [HO]; · iexact HO
  iexact H

theorem part27_run (h2 : k0_cond2 i = 1#1) (v2 : BitVec 32) :
    iprop(records m K ∗ (owes0 c ∗ RcvSt m c 8)) ⊢ run c (atArgs (k0_part27 (F := F) i) a1 ha c v2 h2) (fun _ => iprop(owes0 c ∗ RcvSt m c 10)) := by
  unfold atArgs
  simp only [k0_part27_eq_skeleton]; unfold k0_part27_skel
  simp only [Prog.lift, Prog.bind_op, Prog.bind_ret, Prog.pure_eq_ret]
  iintro ⟨#HR, HO, H⟩
  iapply (wp_rcv m K c (i := 8) (by decide) (vSem_at 8) dmaCredit_xgSl) $$ [$HR $HO $H]; iintro ⟨HO, H⟩
  iapply (wp_rcv m K c (i := 9) (by decide) (vSem_at 9) dmaCredit_xgSl) $$ [$HR $HO $H]; iintro ⟨HO, H⟩
  iapply (run_ret c _ _) $$ [HO H]
  isplitl [HO]; · iexact HO
  iexact H

theorem part28_run (h2 : k0_cond2 i = 1#1) (v2 : BitVec 32) :
    iprop(records m K ∗ (owes0 c ∗ RcvSt m c 10)) ⊢ run c (atArgs (k0_part28 (F := F) i) a1 ha c v2 h2) (fun _ => iprop(owes0 c ∗ RcvSt m c 13)) := by
  unfold atArgs
  simp only [k0_part28_eq_skeleton]; unfold k0_part28_skel
  simp only [Prog.lift, Prog.bind_op, Prog.bind_ret, Prog.pure_eq_ret]
  iintro ⟨#HR, HO, H⟩
  iapply (wp_rcv m K c (i := 10) (by decide) (vSem_at 10) dmaCredit_xgSl) $$ [$HR $HO $H]; iintro ⟨HO, H⟩
  iapply (wp_rcv m K c (i := 11) (by decide) (vSem_at 11) dmaCredit_xgSl) $$ [$HR $HO $H]; iintro ⟨HO, H⟩
  iapply (wp_rcv m K c (i := 12) (by decide) (vSem_at 12) dmaCredit_xgSl) $$ [$HR $HO $H]; iintro ⟨HO, H⟩
  iapply (run_ret c _ _) $$ [HO H]
  isplitl [HO]; · iexact HO
  iexact H

end Cert.KernelIdealProof

end
-- ==== Proof.States.lean ====
/-
What a device holds between the grid's points, and how a point moves it.
-/
module

public import proofs.«01_k».proof.Proof.Meet

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## A fact for each `i`, counted round the other way -/

theorem fam_perm (Φ : ℕ → sProp 𝕄) : bigSep (Finset.Ico 1 16) Φ = bigSep (Finset.Ico 1 16) (fun i => Φ (perm i)) := by
  rw [← bigSep_image_of_injOn (f := perm) (s := Finset.Ico 1 16) (fun a ha b hb e => by
    rw [← pinv_perm a (Finset.mem_coe.mp ha), ← pinv_perm b (Finset.mem_coe.mp hb), e]) Φ]
  rw [show (Finset.Ico 1 16).image perm = Finset.Ico 1 16 by decide]

theorem fam_sep (a b : ℕ) (Φ Ψ : ℕ → sProp 𝕄) :
    bigSep (Finset.Ico a b) (fun i => iprop(Φ i ∗ Ψ i)) = iprop(bigSep (Finset.Ico a b) Φ ∗ bigSep (Finset.Ico a b) Ψ) := bigSep_sep' _ _ _

theorem fam_congr {a b : ℕ} {Φ Ψ : ℕ → sProp 𝕄} (h : ∀ i ∈ Finset.Ico a b, Φ i = Ψ i) : bigSep (Finset.Ico a b) Φ = bigSep (Finset.Ico a b) Ψ :=
  bigSep_congr h

/-! ## The activations' rows by the device they go to -/

theorem dst_inj : ∀ c : Dev nD, ∀ i ∈ Finset.range 16, ∀ j ∈ Finset.range 16, (dst c i).val = (dst c j).val → i = j := by decide +kernel
theorem dst_onto : ∀ c : Dev nD, ∀ j : Fin 16, ∃ i ∈ Finset.range 16, (dst c i).val = j.val := by decide +kernel
theorem dst_zero : ∀ c : Dev nD, dst c 0 = c := by decide +kernel

theorem xb_disj : ∀ i ∈ Finset.Ico 0 16, ∀ j ∈ Finset.Ico 0 16, i ≠ j → Disjoint (xbBlk (dst c i).val) (xbBlk (dst c j).val) := by
  intro i hi j hj hne
  rw [Finset.disjoint_left]
  intro x hx hx'
  simp only [xbBlk, Finset.mem_filter] at hx hx'
  exact hne (dst_inj c i hi j hj (hx.2.symm.trans hx'.2))
theorem xb_cover : (Finset.Ico 0 16).biUnion (fun i => xbBlk (dst c i).val) = Finset.univ := by
  ext x
  simp only [Finset.mem_biUnion, xbBlk, Finset.mem_filter, Finset.mem_univ, true_and, iff_true]
  have hx : (x 0).val < 4096 := (x 0).isLt
  obtain ⟨i, hi, e⟩ := dst_onto c ⟨(x 0).val / 256, by omega⟩
  exact ⟨i, hi, e.symm⟩

theorem xb_split : (xbL c ↦[Finset.univ]{fullShare} X m c : sProp 𝕄)
    = iprop((xbL c ↦[xbBlk c.val]{fullShare} X m c) ∗ bigSep (Finset.Ico 1 16) (sendPay m c)) := by
  rw [← xb_cover c, pointsTo_biUnion _ _ (xb_disj c), fam_head (by decide : 0 < 16), dst_zero]; rfl

/-! ## The gathered halves by blocks -/

theorem xg_pieces (g : ℕ) : xgHalfSet g = (Finset.Ico (8 * g) (8 * g + 8)).biUnion xgBlk := by
  ext x
  simp only [Finset.mem_biUnion, xgBlk, xgHalfSet, Finset.mem_filter, Finset.mem_univ, true_and, Finset.mem_Ico]
  constructor
  · intro h; exact ⟨(x 1).val / 256, by omega, rfl⟩
  · rintro ⟨i, hi, e⟩; omega
theorem xg_disj (g : ℕ) : ∀ i ∈ Finset.Ico (8 * g) (8 * g + 8), ∀ j ∈ Finset.Ico (8 * g) (8 * g + 8), i ≠ j → Disjoint (xgBlk i) (xgBlk j) := by
  intro i _ j _ hne
  rw [Finset.disjoint_left]
  intro x hx hx'
  simp only [xgBlk, Finset.mem_filter] at hx hx'
  omega
theorem xg_half (g : ℕ) : (xgL c ↦[xgHalfSet g]{fullShare} xgC m c : sProp 𝕄) = bigSep (Finset.Ico (8 * g) (8 * g + 8)) (recvPay m c) := by
  rw [xg_pieces, pointsTo_biUnion _ _ (xg_disj g)]; rfl

/-! ## The states between points -/

/-- What the barrier's and the exchange's cells hold for a device until it waits on them. -/
def atBar : sProp 𝕄 := iprop(cred (tallyAt (barCell c) () 15) ∗ atPos ER (barCell c) 0 ∅ 0)
def atRecv (i : ℕ) : sProp 𝕄 := iprop(cred (tallyAt (recvCell c i) () N) ∗ atPos ER (recvCell c i) 0 ∅ 0)
def atSend (i : ℕ) : sProp 𝕄 := atPos ER (sendCell c i) 0 ∅ 0
def sndTok (i : ℕ) : sProp 𝕄 := iprop(dutyTok ER (sendCell c i) 0 0 ∗ dutyTok ER (recvCell (dst c i) i) 0 0)

/-- Chunk `ch` where its slot holds it in flight; past the last chunk, the slot alone. -/
def slotAt (ch : ℕ) : sProp 𝕄 := if ch < 16 then Flight m c ch else Free c ch
/-- The weights' chunks as point `p` finds them, and after its issue. -/
def RingSt (p : ℕ) : sProp 𝕄 :=
  iprop(bigSep (Finset.Ico 0 p) (wCh m c) ∗ bigSep (Finset.Ico p (p + 4)) (slotAt m c) ∗ bigSep (Finset.Ico (p + 4) 16) (wCh m c) ∗ Free c (p + 4))
def RingMid (p : ℕ) : sProp 𝕄 :=
  iprop(bigSep (Finset.Ico 0 p) (wCh m c) ∗ bigSep (Finset.Ico p (p + 5)) (slotAt m c) ∗ bigSep (Finset.Ico (p + 5) 16) (wCh m c))
/-- The accumulator's tiles and the output's as point `p` finds them. -/
def AccSt (p : ℕ) : sProp 𝕄 :=
  iprop(bigSep (Finset.Ico 0 (p - 8)) (OutFly m c) ∗ bigSep (Finset.Ico (p - 8) 8) (OutIdle c)
    ∗ bigSep (Finset.Ico (p - 8) (min p 8)) (fun t => oL c ↦[oTl t]{fullShare} oC1 m c)
    ∗ bigSep (Finset.Ico (min p 8) 8) (fun t => iprop(∃ f, oL c ↦[oTl t]{fullShare} f)))
/-- The activations: not staged, then the first half gathered, then both. -/
def XStart : sProp 𝕄 :=
  iprop(bigSep (Finset.Ico 1 16) (sigItem c) ∗ atBar c ∗ bigSep (Finset.Ico 1 16) (sndTok c) ∗ bigSep (Finset.Ico 1 16) (atRecv c)
    ∗ bigSep (Finset.Ico 1 16) (atSend c) ∗ (∃ f, xbL c ↦[Finset.univ]{fullShare} f) ∗ ∃ f, xgL c ↦[xgBlk 0]{fullShare} f)
def XSent : sProp 𝕄 := iprop((xbL c ↦[xbBlk c.val]{fullShare} X m c) ∗ SwtSt m c 1 ∗ semVal (barCell c) 0)
def XHalf : sProp 𝕄 := iprop(RcvSt m c 8 ∗ (xgL c ↦[xgBlk 0]{fullShare} xgC m c))
def XFull : sProp 𝕄 := iprop(RcvSt m c 16 ∗ (xgL c ↦[xgBlk 0]{fullShare} xgC m c))

/-! ## Their steps -/

theorem ring_issue {p : ℕ} (hp : p < 12) :
    RingSt m c p ⊢ iprop((Free c (p + 4) ∗ wCh m c (p + 4)) ∗ (Flight m c (p + 4) -∗ RingMid m c p)) := by
  unfold RingSt RingMid
  rw [fam_head (by omega : p + 4 < 16), show p + 5 = p + 4 + 1 from rfl, fam_snoc (by omega : p ≤ p + 4) (slotAt m c),
    show slotAt m c (p + 4) = Flight m c (p + 4) from if_pos (by omega)]
  iintro ⟨HW, HS, ⟨HC, HR⟩, HF⟩
  isplitl [HC HF]
  · isplitl [HF]; · iexact HF
    iexact HC
  iintro HN
  isplitl [HW]; · iexact HW
  isplitl [HS HN]
  · isplitl [HS]; · iexact HS
    iexact HN
  iexact HR

theorem ring_late {p : ℕ} (hp : 12 ≤ p) : RingSt m c p ⊢ RingMid m c p := by
  unfold RingSt RingMid
  rw [show p + 5 = p + 4 + 1 from rfl, fam_snoc (by omega : p ≤ p + 4) (slotAt m c),
    show slotAt m c (p + 4) = Free c (p + 4) from if_neg (by omega),
    show Finset.Ico (p + 4) 16 = ∅ from Finset.Ico_eq_empty (by omega), show Finset.Ico (p + 4 + 1) 16 = ∅ from Finset.Ico_eq_empty (by omega)]
  iintro ⟨HW, HS, HR, HF⟩
  isplitl [HW]; · iexact HW
  isplitl [HS HF]
  · isplitl [HS]; · iexact HS
    iexact HF
  iexact HR

theorem ring_wait {p : ℕ} (hp : p < 16) :
    RingMid m c p ⊢ iprop(Flight m c p ∗ (((semVal ((c : Thread nD τ), .dma (ringS p)) 0 ∗ (∃ f, rL c ↦[rSl (p % 5)]{fullShare} f)) ∗ wCh m c p) -∗ RingSt m c (p + 1))) := by
  unfold RingSt RingMid
  rw [fam_head (by omega : p < p + 5), show slotAt m c p = Flight m c p from if_pos hp, fam_snoc (by omega : 0 ≤ p),
    show Free c (p + 1 + 4) = Free (F := F) c p by
      unfold Free; rw [show ringS (p + 1 + 4) = ringS p from Fin.ext (by show 1 + (p + 5) % 5 = 1 + p % 5; omega), show (p + 1 + 4) % 5 = p % 5 by omega]]
  iintro ⟨HW, ⟨HF, HS⟩, HR⟩
  isplitl [HF]; · iexact HF
  iintro ⟨HN, HC⟩
  isplitl [HW HC]
  · isplitl [HW]; · iexact HW
    iexact HC
  isplitl [HS]; · iexact HS
  isplitl [HR]; · iexact HR
  unfold Free
  iexact HN

theorem acc_first {p : ℕ} (hp : p < 8) :
    AccSt m c p ⊢ iprop((∃ f, oL c ↦[oTl p]{fullShare} f) ∗ ((oL c ↦[oTl p]{fullShare} oC1 m c) -∗ AccSt m c (p + 1))) := by
  unfold AccSt
  rw [show p - 8 = 0 by omega, show p + 1 - 8 = 0 by omega, show min p 8 = p by omega, show min (p + 1) 8 = p + 1 by omega,
    fam_head hp (fun t => iprop(∃ f, oL c ↦[oTl t]{fullShare} f)), fam_snoc (by omega : 0 ≤ p)]
  iintro ⟨H1, H2, H3, H4, H5⟩
  isplitl [H4]; · iexact H4
  iintro HN
  isplitl [H1]; · iexact H1
  isplitl [H2]; · iexact H2
  isplitl [H3 HN]
  · isplitl [H3]; · iexact H3
    iexact HN
  iexact H5

theorem acc_second {p : ℕ} (hp : 8 ≤ p) (hp' : p < 16) :
    AccSt m c p ⊢ iprop((OutIdle c (p - 8) ∗ (oL c ↦[oTl (p - 8)]{fullShare} oC1 m c)) ∗ (OutFly m c (p - 8) -∗ AccSt m c (p + 1))) := by
  unfold AccSt
  rw [show p + 1 - 8 = p - 8 + 1 by omega, show min p 8 = 8 by omega, show min (p + 1) 8 = 8 by omega,
    fam_head (by omega : p - 8 < 8) (OutIdle c), fam_head (by omega : p - 8 < 8) (fun t => iprop(oL c ↦[oTl t]{fullShare} oC1 m c)), fam_snoc (by omega : 0 ≤ p - 8)]
  iintro ⟨H1, ⟨H2, H2'⟩, ⟨H3, H3'⟩, H4⟩
  isplitl [H2 H3]
  · isplitl [H2]; · iexact H2
    iexact H3
  iintro HN
  isplitl [H1 HN]
  · isplitl [H1]; · iexact H1
    iexact HN
  isplitl [H2']; · iexact H2'
  isplitl [H3']; · iexact H3'
  iexact H4

theorem snd_start (Wt : Waits sig Unit) :
    iprop(owes (c : Thread nD τ) (debt c 1 16) Wt ∗ bigSep (Finset.Ico 1 16) (barPay (F := F) c) ∗ bigSep (Finset.Ico 1 16) (sndTok c) ∗ (xbL c ↦[Finset.univ]{fullShare} X m c))
      ⊢ iprop(SndSt m c 1 Wt ∗ (xbL c ↦[xbBlk c.val]{fullShare} X m c)) := by
  unfold SndSt
  rw [xb_split, fam_nil, fam_perm (barPay c), show bigSep (Finset.Ico 1 16) (sndItem m c) = iprop(bigSep (Finset.Ico 1 16) (sendPay m c)
      ∗ bigSep (Finset.Ico 1 16) (fun i => barPay (F := F) c (perm i)) ∗ bigSep (Finset.Ico 1 16) (sndTok c)) by
    rw [← fam_sep, ← fam_sep]
    refine fam_congr fun i hi => ?_
    unfold sndItem barPay sndTok
    rw [pinv_perm i hi]; rfl]
  iintro ⟨HO, HB, HT, HX, HS⟩
  isplitl [HO HB HT HS]
  · isplitl [HO]; · iexact HO
    isplitl [HB HT HS]
    · isplitl [HS]; · iexact HS
      isplitl [HB]; · iexact HB
      iexact HT
    iempintro
  iexact HX

theorem snd_end (Wt : Waits sig Unit) :
    iprop(SndSt m c 16 Wt ∗ bigSep (Finset.Ico 1 16) (atSend (F := F) c)) ⊢ iprop(owes0 c ∗ SwtSt m c 1) := by
  unfold SndSt SwtSt owes0
  rw [fam_nil, fam_nil, debt_none, fam_sep]
  iintro ⟨⟨HO, -, HC⟩, HA⟩
  isplitl [HO]; · iexists Wt; iexact HO
  isplitl [HC HA]
  · isplitl [HC]; · iexact HC
    iexact HA
  iempintro

theorem half_open : XHalf m c ⊢ iprop((xgL c ↦[xgHalfSet 0]{fullShare} xgC m c) ∗ ((xgL c ↦[xgHalfSet 0]{fullShare} xgC m c) -∗ XHalf m c)) := by
  unfold XHalf RcvSt
  rw [xg_half m c 0, fam_sep 1 8, fam_head (by decide : 8 * 0 < 8 * 0 + 8),
    show recvPay m c (8 * 0) = (xgL c ↦[xgBlk 0]{fullShare} xgC m c : sProp 𝕄) from rfl]
  iintro ⟨⟨HA, HR, HV⟩, HX⟩
  isplitl [HX HR]
  · isplitl [HX]; · iexact HX
    iexact HR
  iintro ⟨HX, HR⟩
  isplitl [HA HR HV]
  · isplitl [HA]; · iexact HA
    isplitl [HR]; · iexact HR
    iexact HV
  iexact HX

theorem full_open : XFull m c ⊢ iprop((xgL c ↦[xgHalfSet 1]{fullShare} xgC m c) ∗ ((xgL c ↦[xgHalfSet 1]{fullShare} xgC m c) -∗ XFull m c)) := by
  have e : bigSep (Finset.Ico 1 16) (recvPay m c) = iprop(bigSep (Finset.Ico 1 8) (recvPay m c) ∗ bigSep (Finset.Ico 8 16) (recvPay m c)) := by
    rw [show Finset.Ico 1 16 = Finset.Ico 1 8 ∪ Finset.Ico 8 16 by decide, bigSep_union (by decide)]; rfl
  unfold XFull RcvSt
  rw [xg_half m c 1, fam_sep 1 16, e]
  iintro ⟨⟨HA, ⟨HR, HR'⟩, HV⟩, HX⟩
  isplitl [HR']; · iexact HR'
  iintro HR'
  isplitl [HA HR HR' HV]
  · isplitl [HA]; · iexact HA
    isplitl [HR HR']
    · isplitl [HR]; · iexact HR
      iexact HR'
    iexact HV
  iexact HX

end Cert.KernelIdealProof

end
-- ==== Proof.First.lean ====
/-
The first point's opening: the first chunks issued, the devices met, the activations exchanged.
-/
module

public import proofs.«01_k».proof.Proof.States

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 31 → ℕ)
variable (c : Dev nD) (i : grid0.Coords) (h : k0_cond1 i = 1#1)

/-- The device's first chunk's slots, and the weights. -/
def RingStart : sProp 𝕄 := iprop(bigSep (Finset.Ico 0 5) (Free (F := F) c) ∗ bigSep (Finset.Ico 0 16) (wCh m c))

theorem ring_start :
    RingStart m c ⊢ iprop((Free c 0 ∗ wCh m c 0) ∗ (Free c 1 ∗ wCh m c 1) ∗ (Free c 2 ∗ wCh m c 2) ∗ (Free c 3 ∗ wCh m c 3) ∗ (Free c 4 ∗ wCh m c 4)
      ∗ ((Flight m c 0 ∗ Flight m c 1 ∗ Flight m c 2 ∗ Flight m c 3 ∗ Flight m c 4) -∗ RingMid m c 0)) := by
  unfold RingStart RingMid
  have hs : ∀ ch < 5, slotAt m c ch = Flight m c ch := fun ch h => if_pos (by omega)
  rw [fam_nil, fam_congr (a := 0) (b := 0 + 5) (Φ := slotAt m c) (Ψ := Flight m c) (fun ch h => hs ch (Finset.mem_Ico.mp h).2)]
  simp only [Nat.zero_add]
  rw [fam_head (by decide : 0 < 5), fam_head (by decide : 0 + 1 < 5), fam_head (by decide : 0 + 1 + 1 < 5), fam_head (by decide : 0 + 1 + 1 + 1 < 5), fam_head (by decide : 0 + 1 + 1 + 1 + 1 < 5), fam_nil,
    fam_head (by decide : 0 < 5) (Flight m c), fam_head (by decide : 0 + 1 < 5) (Flight m c), fam_head (by decide : 0 + 1 + 1 < 5) (Flight m c), fam_head (by decide : 0 + 1 + 1 + 1 < 5) (Flight m c), fam_head (by decide : 0 + 1 + 1 + 1 + 1 < 5) (Flight m c), fam_nil,
    fam_head (by decide : 0 < 16), fam_head (by decide : 0 + 1 < 16), fam_head (by decide : 0 + 1 + 1 < 16), fam_head (by decide : 0 + 1 + 1 + 1 < 16), fam_head (by decide : 0 + 1 + 1 + 1 + 1 < 16)]
  iintro ⟨⟨F0, F1, F2, F3, F4, -⟩, W0, W1, W2, W3, W4, HW⟩
  isplitl [F0 W0]; · iframe
  isplitl [F1 W1]; · iframe
  isplitl [F2 W2]; · iframe
  isplitl [F3 W3]; · iframe
  isplitl [F4 W4]; · iframe
  iintro ⟨G0, G1, G2, G3, G4⟩
  iframe

theorem part26_run (hx : xM.IsWhole) (v2 : BitVec 32) (Wt : Waits sig Unit) :
    iprop((records m K ∗ levAts L lv) ∗ owes (c : Thread nD τ) (debt c 1 1) Wt ∗ XStart c ∗ RingStart m c ∗ (xM.view.loc (c : Thread nD τ) ↦[Finset.univ]{fullShare} X m c))
      ⊢ run c (atArgs (k0_part26 (F := F) i) xM hx c v2 h)
          (fun _ => iprop((owes0 c ∗ RcvSt m c 7) ∗ XSent m c ∗ (xgL c ↦[xgBlk 0]{fullShare} xgC m c) ∗ RingMid m c 0
            ∗ (xM.view.loc (c : Thread nD τ) ↦[Finset.univ]{fullShare} X m c))) := by
  unfold atArgs
  simp only [k0_part26_eq_skeleton]; unfold k0_part26_skel
  simp only [k0_part1_eq_skeleton, k0_part4_eq_skeleton, k0_part7_eq_skeleton, k0_part10_eq_skeleton, k0_part13_eq_skeleton]
  unfold k0_part1_skel k0_part4_skel k0_part7_skel k0_part10_skel k0_part13_skel
  simp only [Prog.lift, Prog.bind_op, Prog.bind_ret, Prog.pure_eq_ret]
  unfold XStart XSent
  iintro ⟨⟨#HR, #HL⟩, HO, ⟨HSig, HB, HT, HA, HS, HXb, HXg⟩, HRing, HX⟩
  ihave HRing' := (ring_start m c) $$ HRing
  icases HRing' with ⟨H0, H1, H2, H3, H4, HBack⟩
  imod (iss_start m c 0) $$ H0 with H0
  iapply (run_seq c (part2_run m c i h xM hx v2 _ _ _)) $$ H0; iintro %r H0
  iapply (run_seq c (part3_run m c i h xM hx v2)) $$ H0; iintro %r H0; obtain ⟨w0, w1, w2⟩ := r
  ihave H0 := (iss_end m c 0) $$ H0
  imod (iss_start m c 1) $$ H1 with H1
  iapply (run_seq c (part5_run m c i h xM hx v2 _)) $$ H1; iintro %r H1
  iapply (run_seq c (part6_run m c i h xM hx v2)) $$ H1; iintro %r H1; obtain ⟨w0, w1⟩ := r
  ihave H1 := (iss_end m c 1) $$ H1
  imod (iss_start m c 2) $$ H2 with H2
  iapply (run_seq c (part8_run m c i h xM hx v2 _)) $$ H2; iintro %r H2
  iapply (run_seq c (part9_run m c i h xM hx v2)) $$ H2; iintro %r H2; obtain ⟨w0, w1, w2⟩ := r
  ihave H2 := (iss_end m c 2) $$ H2
  imod (iss_start m c 3) $$ H3 with H3
  iapply (run_seq c (part11_run m c i h xM hx _ _)) $$ H3; iintro %r H3
  iapply (run_seq c (part12_run m c i h xM hx v2)) $$ H3; iintro %r H3
  ihave H3 := (iss_end m c 3) $$ H3
  imod (iss_start m c 4) $$ H4 with H4
  iapply (run_seq c (part14_run m c i h xM hx)) $$ H4; iintro %r H4
  ihave HSig := (show iprop(owes (c : Thread nD τ) (debt c 1 1) Wt ∗ bigSep (Finset.Ico 1 16) (sigItem (F := F) c)) ⊢ SigSt c 1 Wt from Entails.of_eq rfl) $$ [HO HSig]
  · iframe
  iapply (run_seq' c (part15_run m K c i h xM hx v2 Wt)) $$ [H4 HSig]
  · iframe
    iexact HR
  iintro %r ⟨%hr, H4, HSig⟩; obtain ⟨b, w⟩ := r
  ihave H4 := (iss_end m c 4) $$ H4
  iapply (run_seq c (part16_run m K c i h xM hx v2 w b hr Wt)) $$ [HSig]
  · iframe
    iexact HR
  iintro %r HSig
  unfold atBar
  iapply (run_seq c (part17_run m K c i h hx v2 r b hr (X m c) Wt)) $$ [HSig HB HX HXb]
  · iframe
    isplitr
    · iexact HR
    iexact HL
  iintro %r ⟨⟨⟨%Wt', HO⟩, HPay, HzB⟩, HX, HXb⟩
  ihave HSnd := (snd_start m c Wt') $$ [HO HPay HT HXb]
  · iframe
  icases HSnd with ⟨HSnd, HXb⟩
  iapply (run_seq c (part18_run m K c i h xM hx v2 _ Wt')) $$ [HSnd]
  · iframe; iexact HR
  iintro %r HSnd; obtain ⟨w0, w1⟩ := r
  iapply (run_seq c (part19_run m K c i h xM hx v2 _ _ Wt')) $$ [HSnd]
  · iframe; iexact HR
  iintro %r HSnd
  iapply (run_seq c (part20_run m K c i h xM hx v2 _ Wt')) $$ [HSnd]
  · iframe; iexact HR
  iintro %r HSnd; obtain ⟨w0, w1⟩ := r
  iapply (run_seq c (part21_run m K c i h xM hx v2 _ _ Wt')) $$ [HSnd]
  · iframe; iexact HR
  iintro %r HSnd
  iapply (run_seq c (part22_run m K c i h xM hx v2 _ Wt')) $$ [HSnd]
  · iframe; iexact HR
  iintro %r HSnd; obtain ⟨w0, w1⟩ := r
  iapply (run_seq c (part23_run m K c i h xM hx v2 _ _ Wt')) $$ [HSnd]
  · iframe; iexact HR
  iintro %r HSnd
  ihave HSw := (snd_end m c Wt') $$ [HSnd HS]
  · iframe
  icases HSw with ⟨HO, HSw⟩
  ihave HRcv := (show bigSep (Finset.Ico 1 16) (atRecv (F := F) c) ⊢ RcvSt m c 1 by
    unfold RcvSt; rw [fam_nil]; iintro H; isplitl [H]; · iexact H
    iempintro) $$ HA
  iapply (run_seq c (part24_run m K c i h xM hx v2 _)) $$ [HO HRcv HXb HXg]
  · iframe; iexact HR
  iintro %r ⟨H, HXb, HXg⟩
  iapply (run_seq c (part25_run m K c i h xM hx v2)) $$ [H]
  · iframe; iexact HR
  iintro %r ⟨HO, H⟩; obtain ⟨w0, w1⟩ := r
  iapply (wp_rcv m K c (i := 6) (by decide) (vSem_at 6) dmaCredit_xgSl) $$ [$HR $HO $H]; iintro ⟨HO, H⟩
  ihave HRing := HBack $$ [H0 H1 H2 H3 H4]
  · iframe
  iapply (run_ret c _ _)
  iframe

end Cert.KernelIdealProof

end
-- ==== Proof.Openings.lean ====
/-
The later points' parts: a chunk issued, a chunk waited for, the last point's waits; and how each point opens.
-/
module

public import proofs.«01_k».proof.Proof.First

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 31 → ℕ)
variable (c d : Dev nD) (i : grid0.Coords) (a1 : Memref sig .tc .vmem S4096x256 .bf16) (ha : a1.IsWhole)

/-! ## A chunk issued four points ahead, and the point's own chunk waited for -/

theorem part31_run (h3 : k0_cond3 i = 1#1) (v2 w0 : BitVec 32) (w1 : BitVec 1) (w2 w3 : BitVec 32) :
    IssSt m c ((i 0).val + 4) 0 ⊢ run c (atArgs (k0_part31 (F := F) i) a1 ha c v2 h3 w0 w1 w2 w3) (fun _ => IssSt m c ((i 0).val + 4) 6) := by
  unfold atArgs
  simp only [k0_part31_eq_skeleton]; unfold k0_part31_skel
  simp only [Prog.lift, Prog.bind_op, Prog.bind_ret, Prog.pure_eq_ret]
  iintro H
  iapply (wp_issue m c ((i 0).val + 4) (j := 0) (by decide) (off8_w i c h3 0) (k0_off7_eq i) (rSem_eq (k := (i 0).val + 4) (k0_off6_eq i))) $$ H; iintro H
  iapply (wp_issue m c ((i 0).val + 4) (j := 1) (by decide) (off8_w i c h3 1) (k0_off9_eq i) (rSem_eq (k := (i 0).val + 4) (k0_off6_eq i))) $$ H; iintro H
  iapply (wp_issue m c ((i 0).val + 4) (j := 2) (by decide) (off8_w i c h3 2) (k0_off10_eq i) (rSem_eq (k := (i 0).val + 4) (k0_off6_eq i))) $$ H; iintro H
  iapply (wp_issue m c ((i 0).val + 4) (j := 3) (by decide) (off8_w i c h3 3) (k0_off11_eq i) (rSem_eq (k := (i 0).val + 4) (k0_off6_eq i))) $$ H; iintro H
  iapply (wp_issue m c ((i 0).val + 4) (j := 4) (by decide) (off8_w i c h3 4) (k0_off12_eq i) (rSem_eq (k := (i 0).val + 4) (k0_off6_eq i))) $$ H; iintro H
  iapply (wp_issue m c ((i 0).val + 4) (j := 5) (by decide) (off8_w i c h3 5) (k0_off13_eq i) (rSem_eq (k := (i 0).val + 4) (k0_off6_eq i))) $$ H; iintro H
  iapply (run_ret c _ _) $$ H

theorem part40_run (v2 w0 w1 : BitVec 32) :
    WtSt m c (i 0).val 0 ⊢ run c (atArgs (k0_part40 (F := F) i) a1 ha d v2 w0 w1) (fun _ => WtSt m c (i 0).val 3) := by
  unfold atArgs
  simp only [k0_part40_eq_skeleton]; unfold k0_part40_skel
  simp only [Prog.lift, Prog.bind_op, Prog.bind_ret, Prog.pure_eq_ret]
  iintro H
  iapply (wp_wt m c (i 0).val (j := 0) (by decide) (rSem_eq (k := (i 0).val) (k0_off16_eq i)) dmaCredit_rSq) $$ H; iintro H
  iapply (wp_wt m c (i 0).val (j := 1) (by decide) (rSem_eq (k := (i 0).val) (k0_off16_eq i)) dmaCredit_rSq) $$ H; iintro H
  iapply (wp_wt m c (i 0).val (j := 2) (by decide) (rSem_eq (k := (i 0).val) (k0_off16_eq i)) dmaCredit_rSq) $$ H; iintro H
  iapply (run_ret c _ _) $$ H

theorem part41_run (w0 : BitVec 32) :
    WtSt m c (i 0).val 3 ⊢ run c (atArgs (k0_part41 (F := F) i) a1 ha w0 d) (fun _ => WtSt m c (i 0).val 8) := by
  unfold atArgs
  simp only [k0_part41_eq_skeleton]; unfold k0_part41_skel
  simp only [Prog.lift, Prog.bind_op, Prog.bind_ret, Prog.pure_eq_ret]
  iintro H
  iapply (wp_wt m c (i 0).val (j := 3) (by decide) (rSem_eq (k := (i 0).val) (k0_off16_eq i)) dmaCredit_rSq) $$ H; iintro H
  iapply (wp_wt m c (i 0).val (j := 4) (by decide) (rSem_eq (k := (i 0).val) (k0_off16_eq i)) dmaCredit_rSq) $$ H; iintro H
  iapply (wp_wt m c (i 0).val (j := 5) (by decide) (rSem_eq (k := (i 0).val) (k0_off16_eq i)) dmaCredit_rSq) $$ H; iintro H
  iapply (wp_wt m c (i 0).val (j := 6) (by decide) (rSem_eq (k := (i 0).val) (k0_off16_eq i)) dmaCredit_rSq) $$ H; iintro H
  iapply (wp_wt m c (i 0).val (j := 7) (by decide) (rSem_eq (k := (i 0).val) (k0_off16_eq i)) dmaCredit_rSq) $$ H; iintro H
  iapply (run_ret c _ _) $$ H

/-! ## The last point's waits -/

theorem part32_run :
    iprop(owes0 c ∗ OwtSt m c 0) ⊢ run c (atArgs (k0_part32 (F := F) i) a1 ha) (fun _ => iprop(owes0 c ∗ OwtSt m c 6)) := by
  unfold atArgs
  simp only [k0_part32_eq_skeleton]; unfold k0_part32_skel
  simp only [Prog.lift, Prog.bind_op, Prog.bind_ret, Prog.pure_eq_ret]
  iintro H
  iapply (wp_outwait m c (t := 0) (by decide) (oSem_eq (k := 0) rfl) dmaCredit_ySl) $$ H; iintro H
  iapply (wp_outwait m c (t := 1) (by decide) (oSem_eq (k := 1) rfl) dmaCredit_ySl) $$ H; iintro H
  iapply (wp_outwait m c (t := 2) (by decide) (oSem_eq (k := 2) rfl) dmaCredit_ySl) $$ H; iintro H
  iapply (wp_outwait m c (t := 3) (by decide) (oSem_eq (k := 3) rfl) dmaCredit_ySl) $$ H; iintro H
  iapply (wp_outwait m c (t := 4) (by decide) (oSem_eq (k := 4) rfl) dmaCredit_ySl) $$ H; iintro H
  iapply (wp_outwait m c (t := 5) (by decide) (oSem_eq (k := 5) rfl) dmaCredit_ySl) $$ H; iintro H
  iapply (run_ret c _ _) $$ H

theorem part33_run (h6 : k0_cond6 i = 1#1) (v2 : BitVec 32) :
    iprop(records m K ∗ (owes0 c ∗ OwtSt m c 6) ∗ SwtSt m c 1) ⊢ run c (atArgs (k0_part33 (F := F) i) a1 ha d v2 h6) (fun _ => iprop(OwtSt m c 8 ∗ owes0 c ∗ SwtSt m c 3)) := by
  unfold atArgs
  simp only [k0_part33_eq_skeleton]; unfold k0_part33_skel
  simp only [Prog.lift, Prog.bind_op, Prog.bind_ret, Prog.pure_eq_ret]
  iintro ⟨#HR, H, HS⟩
  iapply (wp_outwait m c (t := 6) (by decide) (oSem_eq (k := 6) rfl) dmaCredit_ySl) $$ H; iintro H
  iapply (wp_outwait m c (t := 7) (by decide) (oSem_eq (k := 7) rfl) dmaCredit_ySl) $$ H; iintro H
  icases H with ⟨HO, HD⟩
  iapply (wp_swt m K c (i := 1) (by decide) (sSem_at 1) dmaCredit_xbSl) $$ [$HR $HO $HS]; iintro ⟨HO, HS⟩
  iapply (wp_swt m K c (i := 2) (by decide) (sSem_at 2) dmaCredit_xbSl) $$ [$HR $HO $HS]; iintro ⟨HO, HS⟩
  iapply (run_ret c _ _) $$ [HD HO HS]
  iframe

theorem part34_run (h6 : k0_cond6 i = 1#1) (v2 w0 : BitVec 32) :
    iprop(records m K ∗ owes0 c ∗ SwtSt m c 3) ⊢ run c (atArgs (k0_part34 (F := F) i) a1 ha d v2 h6 w0) (fun _ => iprop(owes0 c ∗ SwtSt m c 6)) := by
  unfold atArgs
  simp only [k0_part34_eq_skeleton]; unfold k0_part34_skel
  simp only [Prog.lift, Prog.bind_op, Prog.bind_ret, Prog.pure_eq_ret]
  iintro ⟨#HR, HO, H⟩
  iapply (wp_swt m K c (i := 3) (by decide) (sSem_at 3) dmaCredit_xbSl) $$ [$HR $HO $H]; iintro ⟨HO, H⟩
  iapply (wp_swt m K c (i := 4) (by decide) (sSem_at 4) dmaCredit_xbSl) $$ [$HR $HO $H]; iintro ⟨HO, H⟩
  iapply (wp_swt m K c (i := 5) (by decide) (sSem_at 5) dmaCredit_xbSl) $$ [$HR $HO $H]; iintro ⟨HO, H⟩
  iapply (run_ret c _ _) $$ [HO H]
  iframe

theorem part35_run (h6 : k0_cond6 i = 1#1) (v2 w0 w1 : BitVec 32) :
    iprop(records m K ∗ owes0 c ∗ SwtSt m c 6) ⊢ run c (atArgs (k0_part35 (F := F) i) a1 ha d v2 h6 w0 w1) (fun _ => iprop(owes0 c ∗ SwtSt m c 9)) := by
  unfold atArgs
  simp only [k0_part35_eq_skeleton]; unfold k0_part35_skel
  simp only [Prog.lift, Prog.bind_op, Prog.bind_ret, Prog.pure_eq_ret]
  iintro ⟨#HR, HO, H⟩
  iapply (wp_swt m K c (i := 6) (by decide) (sSem_at 6) dmaCredit_xbSl) $$ [$HR $HO $H]; iintro ⟨HO, H⟩
  iapply (wp_swt m K c (i := 7) (by decide) (sSem_at 7) dmaCredit_xbSl) $$ [$HR $HO $H]; iintro ⟨HO, H⟩
  iapply (wp_swt m K c (i := 8) (by decide) (sSem_at 8) dmaCredit_xbSl) $$ [$HR $HO $H]; iintro ⟨HO, H⟩
  iapply (run_ret c _ _) $$ [HO H]
  iframe

theorem part36_run (h6 : k0_cond6 i = 1#1) (v2 : BitVec 32) :
    iprop(records m K ∗ owes0 c ∗ SwtSt m c 9) ⊢ run c (atArgs (k0_part36 (F := F) i) a1 ha d v2 h6) (fun _ => iprop(owes0 c ∗ SwtSt m c 12)) := by
  unfold atArgs
  simp only [k0_part36_eq_skeleton]; unfold k0_part36_skel
  simp only [Prog.lift, Prog.bind_op, Prog.bind_ret, Prog.pure_eq_ret]
  iintro ⟨#HR, HO, H⟩
  iapply (wp_swt m K c (i := 9) (by decide) (sSem_at 9) dmaCredit_xbSl) $$ [$HR $HO $H]; iintro ⟨HO, H⟩
  iapply (wp_swt m K c (i := 10) (by decide) (sSem_at 10) dmaCredit_xbSl) $$ [$HR $HO $H]; iintro ⟨HO, H⟩
  iapply (wp_swt m K c (i := 11) (by decide) (sSem_at 11) dmaCredit_xbSl) $$ [$HR $HO $H]; iintro ⟨HO, H⟩
  iapply (run_ret c _ _) $$ [HO H]
  iframe

theorem part37_run (h6 : k0_cond6 i = 1#1) (v2 : BitVec 32) :
    iprop(records m K ∗ owes0 c ∗ SwtSt m c 12) ⊢ run c (atArgs (k0_part37 (F := F) i) a1 ha d v2 h6) (fun _ => iprop(owes0 c ∗ SwtSt m c 15)) := by
  unfold atArgs
  simp only [k0_part37_eq_skeleton]; unfold k0_part37_skel
  simp only [Prog.lift, Prog.bind_op, Prog.bind_ret, Prog.pure_eq_ret]
  iintro ⟨#HR, HO, H⟩
  iapply (wp_swt m K c (i := 12) (by decide) (sSem_at 12) dmaCredit_xbSl) $$ [$HR $HO $H]; iintro ⟨HO, H⟩
  iapply (wp_swt m K c (i := 13) (by decide) (sSem_at 13) dmaCredit_xbSl) $$ [$HR $HO $H]; iintro ⟨HO, H⟩
  iapply (wp_swt m K c (i := 14) (by decide) (sSem_at 14) dmaCredit_xbSl) $$ [$HR $HO $H]; iintro ⟨HO, H⟩
  iapply (run_ret c _ _) $$ [HO H]
  iframe

/-! ## A point's opening, by which point it is -/

theorem open_first (hx : xM.IsWhole) (hp : (i 0).val = 0) (Wt : Waits sig Unit) :
    iprop((records m K ∗ levAts L lv) ∗ owes (c : Thread nD τ) (debt c 1 1) Wt ∗ XStart c ∗ RingStart m c ∗ (xM.view.loc (c : Thread nD τ) ↦[Finset.univ]{fullShare} X m c))
      ⊢ run c (atArgs (k0_part38 (F := F) i) xM hx)
          (fun _ => iprop(owes0 c ∗ RingMid m c (i 0).val ∗ XHalf m c ∗ XSent m c ∗ (xM.view.loc (c : Thread nD τ) ↦[Finset.univ]{fullShare} X m c))) := by
  have h1 : k0_cond1 i = 1#1 := (cond1_iff i).mpr hp
  have h2 : ¬ k0_cond2 i = 1#1 := fun h => by have := (cond2_iff i).mp h; omega
  have h3 : ¬ k0_cond3 i = 1#1 := fun h => by have := (cond3_iff i).mp h; omega
  unfold atArgs
  simp only [k0_part38_eq_skeleton]; unfold k0_part38_skel
  simp only [dif_pos h1, dif_neg h2, dif_neg h3]
  simp only [wp_deviceId, Prog.lift, Prog.bind_op, Prog.bind_ret, Prog.pure_eq_ret]
  iintro ⟨#HR, H⟩
  iapply (run_seq c (part26_run m K c i h1 hx _ Wt)) $$ [H]
  · iframe; iexact HR
  iintro %r ⟨⟨HO, H⟩, HS, HXg, HRing, HX⟩
  icases HR with ⟨#HR, -⟩
  iapply (wp_rcv m K c (i := 7) (by decide) (vSem_at 7) dmaCredit_xgSl) $$ [$HR $HO $H]; iintro ⟨HO, H⟩
  iapply (run_ret c _ _)
  rw [hp]; unfold XHalf
  iframe

theorem open_issue (hp : 1 ≤ (i 0).val) (hp' : (i 0).val < 12) (hn : (i 0).val ≠ 8) (R : sProp 𝕄) :
    iprop(RingSt m c (i 0).val ∗ R) ⊢ run c (atArgs (k0_part38 (F := F) i) a1 ha) (fun _ => iprop(RingMid m c (i 0).val ∗ R)) := by
  have h1 : ¬ k0_cond1 i = 1#1 := fun h => by have := (cond1_iff i).mp h; omega
  have h2 : ¬ k0_cond2 i = 1#1 := fun h => hn ((cond2_iff i).mp h)
  have h3 : k0_cond3 i = 1#1 := (cond3_iff i).mpr ⟨hp, hp'⟩
  unfold atArgs
  simp only [k0_part38_eq_skeleton]; unfold k0_part38_skel
  simp only [dif_neg h1, dif_neg h2, dif_pos h3]
  simp only [k0_part29_eq_skeleton, k0_part30_eq_skeleton]; unfold k0_part29_skel k0_part30_skel
  simp only [Prog.lift, Prog.bind_op, Prog.bind_ret, Prog.pure_eq_ret]
  iintro ⟨HRing, HQ⟩
  rw [run, wp_deviceId]
  ihave HRing := (ring_issue m c hp') $$ HRing
  icases HRing with ⟨HF, HBack⟩
  imod (iss_start m c ((i 0).val + 4)) $$ HF with H
  iapply (run_seq c (part31_run m c i _ _ h3 _ _ _ _ _)) $$ H; iintro %r H
  iapply (wp_issue m c ((i 0).val + 4) (j := 6) (by decide) (off8_w i c h3 6) (k0_off14_eq i) (rSem_eq (k := (i 0).val + 4) (k0_off6_eq i))) $$ H; iintro H
  iapply (wp_issue m c ((i 0).val + 4) (j := 7) (by decide) (off8_w i c h3 7) (k0_off15_eq i) (rSem_eq (k := (i 0).val + 4) (k0_off6_eq i))) $$ H; iintro H
  ihave H := (iss_end m c ((i 0).val + 4)) $$ H
  ihave HRing := HBack $$ H
  iapply (run_ret c _ _)
  iframe

theorem open_late (hp : 12 ≤ (i 0).val) (R : sProp 𝕄) :
    iprop(RingSt m c (i 0).val ∗ R) ⊢ run c (atArgs (k0_part38 (F := F) i) a1 ha) (fun _ => iprop(RingMid m c (i 0).val ∗ R)) := by
  have h1 : ¬ k0_cond1 i = 1#1 := fun h => by have := (cond1_iff i).mp h; omega
  have h2 : ¬ k0_cond2 i = 1#1 := fun h => by have := (cond2_iff i).mp h; omega
  have h3 : ¬ k0_cond3 i = 1#1 := fun h => by have := (cond3_iff i).mp h; omega
  unfold atArgs
  simp only [k0_part38_eq_skeleton]; unfold k0_part38_skel
  simp only [dif_neg h1, dif_neg h2, dif_neg h3]
  simp only [Prog.lift, Prog.bind_op, Prog.bind_ret, Prog.pure_eq_ret]
  iintro ⟨HRing, HQ⟩
  rw [run, wp_deviceId]
  ihave HRing := (ring_late m c hp) $$ HRing
  iapply (run_ret c _ _)
  iframe

theorem open_half (hp : (i 0).val = 8) :
    iprop(records m K ∗ owes0 c ∗ XHalf m c ∗ RingSt m c (i 0).val) ⊢ run c (atArgs (k0_part38 (F := F) i) a1 ha)
      (fun _ => iprop(RingMid m c (i 0).val ∗ owes0 c ∗ XFull m c)) := by
  have h1 : ¬ k0_cond1 i = 1#1 := fun h => by have := (cond1_iff i).mp h; omega
  have h2 : k0_cond2 i = 1#1 := (cond2_iff i).mpr hp
  have h3 : k0_cond3 i = 1#1 := (cond3_iff i).mpr (by omega)
  have hp' : (i 0).val < 12 := by omega
  unfold atArgs
  simp only [k0_part38_eq_skeleton]; unfold k0_part38_skel
  simp only [dif_neg h1, dif_pos h2, dif_pos h3]
  simp only [k0_part29_eq_skeleton, k0_part30_eq_skeleton]; unfold k0_part29_skel k0_part30_skel
  simp only [Prog.lift, Prog.bind_op, Prog.bind_ret, Prog.pure_eq_ret]
  unfold XHalf XFull
  iintro ⟨#HR, HO, ⟨H, HXg⟩, HRing⟩
  rw [run, wp_deviceId]
  iapply (run_seq c (part27_run m K c i _ _ h2 _)) $$ [HO H]
  · iframe; iexact HR
  iintro %r ⟨HO, H⟩
  iapply (run_seq c (part28_run m K c i _ _ h2 _)) $$ [HO H]
  · iframe; iexact HR
  iintro %r ⟨HO, H⟩
  iapply (wp_rcv m K c (i := 13) (by decide) (vSem_at 13) dmaCredit_xgSl) $$ [$HR $HO $H]; iintro ⟨HO, H⟩
  iapply (wp_rcv m K c (i := 14) (by decide) (vSem_at 14) dmaCredit_xgSl) $$ [$HR $HO $H]; iintro ⟨HO, H⟩
  iapply (wp_rcv m K c (i := 15) (by decide) (vSem_at 15) dmaCredit_xgSl) $$ [$HR $HO $H]; iintro ⟨HO, H⟩
  irename H => HG
  ihave HRing := (ring_issue m c hp') $$ HRing
  icases HRing with ⟨HF, HBack⟩
  imod (iss_start m c ((i 0).val + 4)) $$ HF with H
  iapply (run_seq c (part31_run m c i _ _ h3 _ _ _ _ _)) $$ H; iintro %r H
  iapply (wp_issue m c ((i 0).val + 4) (j := 6) (by decide) (off8_w i c h3 6) (k0_off14_eq i) (rSem_eq (k := (i 0).val + 4) (k0_off6_eq i))) $$ H; iintro H
  iapply (wp_issue m c ((i 0).val + 4) (j := 7) (by decide) (off8_w i c h3 7) (k0_off15_eq i) (rSem_eq (k := (i 0).val + 4) (k0_off6_eq i))) $$ H; iintro H
  ihave H := (iss_end m c ((i 0).val + 4)) $$ H
  ihave HRing := HBack $$ H
  iapply (run_ret c _ _)
  iframe

end Cert.KernelIdealProof

end
-- ==== Proof.Body.lean ====
/-
The whole body at a point, in the first half and in the second.
-/
module

public import proofs.«01_k».proof.Proof.Openings

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 31 → ℕ)
variable (c : Dev nD) (i : grid0.Coords) (a1 : Memref sig .tc .vmem S4096x256 .bf16) (ha : a1.IsWhole)

theorem stored1 (t : ℕ) : (oL c ↦[oTl t]{fullShare} (fun x => tile1 m c ((x 1).val / 1024) (ValueIdx.ix2 (x 0) (Fin.ofNat 1024 (x 1).val))) : sProp 𝕄)
    ⊢ (oL c ↦[oTl t]{fullShare} oC1 m c) := Entails.of_eq rfl
theorem stored2 (t : ℕ) : (oL c ↦[oTl t]{fullShare} (fun x => tile2 m c ((x 1).val / 1024) (ValueIdx.ix2 (x 0) (Fin.ofNat 1024 (x 1).val))) : sProp 𝕄)
    ⊢ (oL c ↦[oTl t]{fullShare} oC2 m c) := Entails.of_eq rfl

theorem acc_end : AccSt m c 16 ⊢ OwtSt m c 0 := by
  unfold AccSt OwtSt
  rw [show 16 - 8 = 8 from rfl, show min 16 8 = 8 from rfl, fam_nil, fam_nil, fam_nil, fam_nil]
  iintro ⟨H, -⟩
  isplitl [H]; · iexact H
  iempintro

/-- What the last point leaves besides: the rows sent are back, the output is out. -/
def XDone : sProp 𝕄 := iprop((xbL c ↦[xbBlk c.val]{fullShare} X m c) ∗ SwtSt m c 16 ∗ semVal (barCell c) 0)
def Tail (q : ℕ) : sProp 𝕄 := if q = 16 then iprop(OwtSt m c 8 ∗ XDone m c) else iprop(AccSt m c q ∗ XSent m c)

/-- A point of the first half: the first product of its output tile, into the accumulator. -/
theorem body_first {P R : sProp 𝕄} (hp : (i 0).val < 8)
    (hopen : P ⊢ run c (atArgs (k0_part38 (F := F) i) a1 ha) (fun _ => iprop(owes0 c ∗ RingMid m c (i 0).val ∗ XHalf m c ∗ R))) :
    iprop(P ∗ AccSt m c (i 0).val) ⊢ run c (atArgs (cc0_body (F := F) i) a1 ha)
      (fun _ => iprop(owes0 c ∗ RingSt m c ((i 0).val + 1) ∗ XHalf m c ∗ AccSt m c ((i 0).val + 1) ∗ R)) := by
  have h4 : k0_cond4 i = 1#1 := (cond4_iff i).mpr hp
  have h5 : ¬ k0_cond5 i = 1#1 := fun h => by have := (cond5_iff i).mp h; omega
  have h6 : ¬ k0_cond6 i = 1#1 := fun h => by have := (cond6_iff i).mp h; omega
  have ho : k0_off28 i = ![0, 1024 * (i 0).val] := by rw [k0_off28_eq, Nat.mod_eq_of_lt hp]
  have hg : k0_off26 i = ![0, 2048 * 0] := by rw [off26_w, Nat.div_eq_of_lt hp]
  unfold atArgs
  simp only [cc0_body_eq_skeleton]; unfold cc0_body_skel
  simp only [dif_pos h4, dif_neg h5, dif_neg h6]
  simp only [k0_part39_eq_skeleton]; unfold k0_part39_skel
  simp only [Prog.lift, Prog.bind_op, Prog.bind_ret, Prog.pure_eq_ret]
  iintro ⟨HP, HAcc⟩
  iapply (run_seq c hopen) $$ HP; iintro %r ⟨HO, HRing, HXg, HR⟩
  obtain ⟨w0, d, w1, w2, w3, w4⟩ := r
  ihave HRing := (ring_wait m c (by omega : (i 0).val < 16)) $$ HRing
  icases HRing with ⟨HF, HBack⟩
  ihave HW := (show iprop(owes0 c ∗ Flight m c (i 0).val) ⊢ WtSt m c (i 0).val 0 by
    unfold WtSt Flight; rw [Nat.zero_mul]) $$ [HO HF]
  · iframe
  iapply (run_seq c (part40_run m c d i a1 ha _ _ _)) $$ HW; iintro %r HW
  iapply (run_seq c (part41_run m c d i a1 ha _)) $$ HW; iintro %r HW; obtain ⟨w5, w6, w7⟩ := r
  imod (wt_end m c (i 0).val) $$ HW with ⟨HO, Hv, Hr, HC⟩
  ihave HXg := (half_open m c) $$ HXg
  icases HXg with ⟨HXg, HBackX⟩
  iapply (wp_ldxg m c (g := 0) (by decide) hg) $$ HXg; iintro HXg
  ihave HXg := HBackX $$ HXg
  iapply (wp_ldr m c (i 0).val (k0_off27_eq i)) $$ Hr; iintro Hr
  ihave HRing := HBack $$ [Hv Hr HC]
  · iframe
    iexists _; iexact Hr
  ihave HAcc := (acc_first m c hp) $$ HAcc
  icases HAcc with ⟨⟨%f, Ho⟩, HBackA⟩
  iapply (wp_ldo c (i 0).val f ho) $$ Ho; iintro Ho
  iapply (wp_sto c (i 0).val f (tile1 m c) ho) $$ Ho; iintro Ho
  ihave Ho := (stored1 m c (i 0).val) $$ Ho
  ihave HAcc := HBackA $$ Ho
  iapply (run_ret c _ _)
  iframe

/-- A point of the second half: the second product added, the tile sent out; the last point waits for everything. -/
theorem body_second {P : sProp 𝕄} (hp : 8 ≤ (i 0).val)
    (hopen : P ⊢ run c (atArgs (k0_part38 (F := F) i) a1 ha) (fun _ => iprop(RingMid m c (i 0).val ∗ owes0 c ∗ XFull m c))) :
    iprop(records m K ∗ P ∗ AccSt m c (i 0).val ∗ XSent m c) ⊢ run c (atArgs (cc0_body (F := F) i) a1 ha)
      (fun _ => iprop(owes0 c ∗ RingSt m c ((i 0).val + 1) ∗ XFull m c ∗ Tail m c ((i 0).val + 1))) := by
  have hp' : (i 0).val < 16 := (i 0).isLt
  have h4 : ¬ k0_cond4 i = 1#1 := fun h => by have := (cond4_iff i).mp h; omega
  have h5 : k0_cond5 i = 1#1 := (cond5_iff i).mpr hp
  have hm : (i 0).val % 8 = (i 0).val - 8 := by omega
  have ho : k0_off29 i = ![0, 1024 * ((i 0).val - 8)] := by rw [k0_off29_eq, hm]
  have hd : k0_off31 i = ![0, 1024 * ((i 0).val - 8)] := by rw [k0_off31_eq, hm]
  have hs : k0_off30 i = ![((i 0).val - 8) % 8] := by rw [k0_off30_eq, Nat.mod_eq_of_lt (by omega : (i 0).val - 8 < 8), hm]
  have hg : k0_off26 i = ![0, 2048 * 1] := by rw [off26_w, show (i 0).val / 8 = 1 by omega]
  have ht : wc m c (i 0).val = wc m c ((i 0).val - 8 + 8) := by rw [Nat.sub_add_cancel hp]
  unfold atArgs
  simp only [cc0_body_eq_skeleton]; unfold cc0_body_skel
  simp only [dif_neg h4, dif_pos h5]
  simp only [k0_part39_eq_skeleton]; unfold k0_part39_skel
  simp only [Prog.lift, Prog.bind_op, Prog.bind_ret, Prog.pure_eq_ret]
  iintro ⟨#HRec, HP, HAcc, HXs⟩
  iapply (run_seq c hopen) $$ HP; iintro %r ⟨HRing, HO, HXg⟩
  obtain ⟨w0, d, w1, w2, w3, w4⟩ := r
  ihave HRing := (ring_wait m c hp') $$ HRing
  icases HRing with ⟨HF, HBack⟩
  ihave HW := (show iprop(owes0 c ∗ Flight m c (i 0).val) ⊢ WtSt m c (i 0).val 0 by
    unfold WtSt Flight; rw [Nat.zero_mul]) $$ [HO HF]
  · iframe
  iapply (run_seq c (part40_run m c d i a1 ha _ _ _)) $$ HW; iintro %r HW
  iapply (run_seq c (part41_run m c d i a1 ha _)) $$ HW; iintro %r HW; obtain ⟨w5, w6, w7⟩ := r
  imod (wt_end m c (i 0).val) $$ HW with ⟨HO, Hv, Hr, HC⟩
  ihave HXg := (full_open m c) $$ HXg
  icases HXg with ⟨HXg, HBackX⟩
  iapply (wp_ldxg m c (g := 1) (by decide) hg) $$ HXg; iintro HXg
  ihave HXg := HBackX $$ HXg
  iapply (wp_ldr m c (i 0).val (k0_off27_eq i)) $$ Hr; iintro Hr
  ihave HRing := HBack $$ [Hv Hr HC]
  · iframe
    iexists _; iexact Hr
  ihave HAcc := (acc_second m c hp hp') $$ HAcc
  icases HAcc with ⟨⟨HY, Ho⟩, HBackA⟩
  iapply (wp_ldo c ((i 0).val - 8) (oC1 m c) ho) $$ Ho; iintro Ho
  iapply (wp_ldo c ((i 0).val - 8) (oC1 m c) ho) $$ Ho; iintro Ho
  rw [rd_o m c ((i 0).val - 8) ho, ht]
  iapply (wp_sto c ((i 0).val - 8) (oC1 m c) (tile2 m c) ho) $$ Ho; iintro Ho
  ihave Ho := (stored2 m c ((i 0).val - 8)) $$ Ho
  iapply (wp_out m c ((i 0).val - 8) hd hd (oSem_eq hs)) $$ [HY Ho]
  · isplitl [HY]; · iexact HY
    iexact Ho
  iintro HFly
  ihave HAcc := HBackA $$ HFly
  by_cases h6 : k0_cond6 i = 1#1
  · have he : (i 0).val + 1 = 16 := by rw [(cond6_iff i).mp h6]
    simp only [dif_pos h6, Prog.lift, Prog.bind_op, Prog.bind_ret, Prog.pure_eq_ret, Prog.bind_assoc]
    ihave HAcc := (Entails.of_eq (show AccSt m c ((i 0).val + 1) = AccSt m c 16 by rw [he])) $$ HAcc
    ihave HD := (acc_end m c) $$ HAcc
    unfold XSent
    icases HXs with ⟨HXb, HS, HzB⟩
    iapply (run_seq c (part32_run m c i a1 ha)) $$ [HO HD]
    · iframe
    iintro %r H
    iapply (run_seq c (part33_run m K c d i a1 ha h6 _)) $$ [H HS]
    · iframe; iexact HRec
    iintro %r ⟨HD, HO, HS⟩
    iapply (run_seq c (part34_run m K c d i a1 ha h6 _ _)) $$ [HO HS]
    · iframe; iexact HRec
    iintro %r ⟨HO, HS⟩; obtain ⟨w8, w9⟩ := r
    iapply (run_seq c (part35_run m K c d i a1 ha h6 _ _ _)) $$ [HO HS]
    · iframe; iexact HRec
    iintro %r ⟨HO, HS⟩
    iapply (run_seq c (part36_run m K c d i a1 ha h6 _)) $$ [HO HS]
    · iframe; iexact HRec
    iintro %r ⟨HO, HS⟩
    iapply (run_seq c (part37_run m K c d i a1 ha h6 _)) $$ [HO HS]
    · iframe; iexact HRec
    iintro %r ⟨HO, HS⟩
    iapply (wp_swt m K c (i := 15) (by decide) (sSem_at 15) dmaCredit_xbSl) $$ [$HRec $HO $HS]; iintro ⟨HO, HS⟩
    iapply (run_ret c _ _)
    unfold Tail XDone
    rw [if_pos he]
    iframe
  · have he : ¬ (i 0).val + 1 = 16 := fun h => h6 ((cond6_iff i).mpr (by omega))
    simp only [dif_neg h6, Prog.bind_ret, Prog.pure_eq_ret]
    iapply (run_ret c _ _)
    unfold Tail
    rw [if_neg he]
    iframe

end Cert.KernelIdealProof

end
-- ==== Proof.Pieces.lean ====
/-
A device's buffers and semaphores cut into the pieces its program moves, and put together again.
-/
module

public import proofs.«01_k».proof.Proof.States

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## A buffer and its pieces -/

/-- A buffer cut into the pieces of a family that covers it. -/
theorem cut {ℓ : Loc nD τ sig} (S : Finset ℕ) (P : ℕ → Finset (Idx ℓ)) (f : Buf (Elt F) ℓ)
    (hd : ∀ i ∈ S, ∀ j ∈ S, i ≠ j → Disjoint (P i) (P j)) (hc : S.biUnion P = Finset.univ) :
    (ℓ ↦[Finset.univ]{fullShare} f : sProp 𝕄) = bigSep S (fun i => ℓ ↦[P i]{fullShare} f) := by
  rw [← hc, pointsTo_biUnion S P hd]

/-- Pieces holding anything make the buffer, holding something. -/
theorem glue {ℓ : Loc nD τ sig} (S : Finset ℕ) (P : ℕ → Finset (Idx ℓ)) (f₀ : Buf (Elt F) ℓ)
    (hd : ∀ i ∈ S, ∀ j ∈ S, i ≠ j → Disjoint (P i) (P j)) (hc : S.biUnion P = Finset.univ) :
    bigSep S (fun i => iprop(∃ f, ℓ ↦[P i]{fullShare} f)) ⊢ (iprop(∃ f, ℓ ↦[Finset.univ]{fullShare} f) : sProp 𝕄) := by
  haveI : Nonempty (Buf (Elt F) ℓ) := ⟨f₀⟩
  iintro H
  ihave H := (BI.bigSep_exists_pi S (fun i f => (ℓ ↦[P i]{fullShare} f : sProp 𝕄))) $$ H
  icases H with ⟨%fs, H⟩
  ihave H := (pointsTo_biUnion_join S P fs f₀ hd) $$ H
  icases H with ⟨%g, -, H⟩
  rw [hc]
  iexists g
  iexact H

/-- A buffer's pieces with its contents forgotten. -/
theorem forget {ℓ : Loc nD τ sig} (S : Finset ℕ) (P : ℕ → Finset (Idx ℓ)) (f : Buf (Elt F) ℓ) :
    bigSep S (fun i => ℓ ↦[P i]{fullShare} f) ⊢ (bigSep S (fun i => iprop(∃ f, ℓ ↦[P i]{fullShare} f)) : sProp 𝕄) :=
  bigSep_mono fun i _ => show (ℓ ↦[P i]{fullShare} f : sProp 𝕄) ⊢ iprop(∃ f, ℓ ↦[P i]{fullShare} f) from by
    iintro H
    iexists f
    iexact H

theorem fam_shift (a n : ℕ) (Φ : ℕ → sProp 𝕄) : bigSep (Finset.Ico a (a + n)) Φ = bigSep (Finset.Ico 0 n) (fun i => Φ (a + i)) := by
  rw [show Finset.Ico a (a + n) = (Finset.Ico 0 n).image (fun i => a + i) by
    ext x; simp only [Finset.mem_Ico, Finset.mem_image]
    exact ⟨fun h => ⟨x - a, by omega, by omega⟩, fun ⟨y, hy, e⟩ => by omega⟩]
  exact bigSep_image_of_injOn (fun x _ y _ e => by simpa using e) Φ

theorem fam_split {a b d : ℕ} (h : a ≤ b) (h' : b ≤ d) (Φ : ℕ → sProp 𝕄) :
    bigSep (Finset.Ico a d) Φ = iprop(bigSep (Finset.Ico a b) Φ ∗ bigSep (Finset.Ico b d) Φ) := by
  rw [← Finset.Ico_union_Ico_eq_Ico h h']
  exact bigSep_union (Finset.Ico_disjoint_Ico_consecutive a b d)

/-! ## The weights -/

theorem perm_inj : ∀ a ∈ Finset.range 16, ∀ b ∈ Finset.range 16, perm a = perm b → a = b := by decide
theorem perm_onto : ∀ d ∈ Finset.range 16, pinv d ∈ Finset.range 16 ∧ perm (pinv d) = d := by decide

theorem wrow_inj (c : Dev nD) {ch j ch' j' : ℕ} (h : ch < 16) (hj : j < 8) (h' : ch' < 16) (hj' : j' < 8)
    (hr : wrow c ch j = wrow c ch' j') (ht : ch % 8 = ch' % 8) : ch = ch' ∧ j = j' := by
  unfold wrow at hr
  have p1 := perm_lt16 (8 * (ch / 8) + j)
  have p2 := perm_lt16 (8 * (ch' / 8) + j')
  have e : perm (8 * (ch / 8) + j) = perm (8 * (ch' / 8) + j') := by omega
  have := perm_inj _ (Finset.mem_range.mpr (by omega)) _ (Finset.mem_range.mpr (by omega)) e
  omega

theorem wrow_onto (c : Dev nD) {r t : ℕ} (hr : r < 16) (ht : t < 8) :
    ∃ ch ∈ Finset.Ico 0 16, ∃ j ∈ Finset.Ico 0 8, wrow c ch j = r ∧ ch % 8 = t := by
  have hc : c.val < 16 := c.isLt
  obtain ⟨h1, h2⟩ := perm_onto ((r + 16 - c.val) % 16) (Finset.mem_range.mpr (Nat.mod_lt _ (by decide)))
  rw [Finset.mem_range] at h1
  refine ⟨8 * (pinv ((r + 16 - c.val) % 16) / 8) + t, Finset.mem_Ico.mpr (by omega), pinv ((r + 16 - c.val) % 16) % 8, Finset.mem_Ico.mpr (by omega), ?_, by omega⟩
  unfold wrow
  rw [show 8 * ((8 * (pinv ((r + 16 - c.val) % 16) / 8) + t) / 8) + pinv ((r + 16 - c.val) % 16) % 8 = pinv ((r + 16 - c.val) % 16) by omega, h2]
  omega

/-- The weights chunk `ch` is copied from, as one set. -/
def wSet (ch : ℕ) : Finset S4096x8192.Idx := (Finset.Ico 0 8).biUnion (fun j => wPc (wrow c ch j) (ch % 8))

theorem w_disj1 {ch : ℕ} (h : ch < 16) : ∀ j ∈ Finset.Ico 0 8, ∀ j' ∈ Finset.Ico 0 8, j ≠ j' → Disjoint (wPc (wrow c ch j) (ch % 8)) (wPc (wrow c ch j') (ch % 8)) := by
  intro j hj j' hj' hne
  rw [Finset.mem_Ico] at hj hj'
  rw [Finset.disjoint_left]
  intro x hx hx'
  simp only [wPc, Finset.mem_filter, Finset.mem_univ, true_and] at hx hx'
  exact hne (wrow_inj c h hj.2 h hj'.2 (hx.1.symm.trans hx'.1) rfl).2

theorem w_disj2 : ∀ ch ∈ Finset.Ico 0 16, ∀ ch' ∈ Finset.Ico 0 16, ch ≠ ch' → Disjoint (wSet c ch) (wSet c ch') := by
  intro ch h ch' h' hne
  rw [Finset.mem_Ico] at h h'
  rw [Finset.disjoint_left]
  intro x hx hx'
  simp only [wSet, wPc, Finset.mem_biUnion, Finset.mem_filter, Finset.mem_univ, true_and, Finset.mem_Ico] at hx hx'
  obtain ⟨j, hj, hx⟩ := hx
  obtain ⟨j', hj', hx'⟩ := hx'
  exact hne (wrow_inj c h.2 hj.2 h'.2 hj'.2 (hx.1.symm.trans hx'.1) (hx.2.symm.trans hx'.2)).1

theorem w_cover : (Finset.Ico 0 16).biUnion (wSet c) = Finset.univ := by
  ext x
  simp only [wSet, wPc, Finset.mem_biUnion, Finset.mem_filter, Finset.mem_univ, true_and, iff_true]
  have h0 : (x 0).val < 4096 := (x 0).isLt
  have h1 : (x 1).val < 8192 := (x 1).isLt
  obtain ⟨ch, h, j, hj, e1, e2⟩ := wrow_onto c (r := (x 0).val / 256) (t := (x 1).val / 1024) (by omega) (by omega)
  exact ⟨ch, h, j, hj, e1.symm, e2.symm⟩

theorem w_split : (wL c ↦[Finset.univ]{fullShare} W m c : sProp 𝕄) = bigSep (Finset.Ico 0 16) (wCh m c) := by
  rw [cut (ℓ := wL c) (Finset.Ico 0 16) (wSet c) _ (w_disj2 c) (w_cover c)]
  refine fam_congr fun ch h => ?_
  unfold wSet
  rw [pointsTo_biUnion _ _ (w_disj1 c (Finset.mem_Ico.mp h).2)]
  rfl

/-! ## The weight buffer, the accumulator and the output, the gathered activations -/

theorem r_disj (a : ℕ) : ∀ i ∈ Finset.Ico a (a + 5), ∀ j ∈ Finset.Ico a (a + 5), i ≠ j → Disjoint (rSl (i % 5)) (rSl (j % 5)) := by
  intro i hi j hj hne
  rw [Finset.mem_Ico] at hi hj
  rw [Finset.disjoint_left]
  intro x hx hx'
  simp only [rSl, Finset.mem_filter, Finset.mem_univ, true_and] at hx hx'
  omega
theorem r_cover (a : ℕ) : (Finset.Ico a (a + 5)).biUnion (fun i => rSl (i % 5)) = Finset.univ := by
  ext x
  simp only [Finset.mem_biUnion, rSl, Finset.mem_filter, Finset.mem_univ, true_and, iff_true, Finset.mem_Ico]
  have h : (x 0).val < 5 := (x 0).isLt
  exact ⟨a + ((x 0).val + 5 - a % 5) % 5, by omega, by omega⟩

theorem o_disj : ∀ i ∈ Finset.Ico 0 8, ∀ j ∈ Finset.Ico 0 8, i ≠ j → Disjoint (oTl i) (oTl j) := by
  intro i _ j _ hne
  rw [Finset.disjoint_left]
  intro x hx hx'
  simp only [oTl, Finset.mem_filter, Finset.mem_univ, true_and] at hx hx'
  omega
theorem o_cover : (Finset.Ico 0 8).biUnion oTl = Finset.univ := by
  ext x
  simp only [Finset.mem_biUnion, oTl, Finset.mem_filter, Finset.mem_univ, true_and, iff_true, Finset.mem_Ico]
  have h : (x 1).val < 8192 := (x 1).isLt
  exact ⟨(x 1).val / 1024, by omega, rfl⟩

theorem xg_all_disj : ∀ i ∈ Finset.Ico 0 16, ∀ j ∈ Finset.Ico 0 16, i ≠ j → Disjoint (xgBlk i) (xgBlk j) := by
  intro i _ j _ hne
  rw [Finset.disjoint_left]
  intro x hx hx'
  simp only [xgBlk, Finset.mem_filter, Finset.mem_univ, true_and] at hx hx'
  omega
theorem xg_cover : (Finset.Ico 0 16).biUnion xgBlk = Finset.univ := by
  ext x
  simp only [Finset.mem_biUnion, xgBlk, Finset.mem_filter, Finset.mem_univ, true_and, iff_true, Finset.mem_Ico]
  have h : (x 1).val < 4096 := (x 1).isLt
  exact ⟨(x 1).val / 256, by omega, rfl⟩

theorem xg_all (f : Vec F S256x4096 .bf16) : (xgL c ↦[Finset.univ]{fullShare} f : sProp 𝕄)
    = iprop((xgL c ↦[xgBlk 0]{fullShare} f) ∗ bigSep (Finset.Ico 1 16) (fun i => xgL c ↦[xgBlk i]{fullShare} f)) := by
  rw [cut (ℓ := xgL c) (Finset.Ico 0 16) xgBlk _ xg_all_disj xg_cover, fam_head (by decide : 0 < 16)]

/-- The gather buffer as a device starts: its first block, and a block for each device that fills one. -/
theorem xg_start (f : Vec F S256x4096 .bf16) : (xgL c ↦[Finset.univ]{fullShare} f : sProp 𝕄)
    ⊢ iprop((xgL c ↦[xgBlk 0]{fullShare} f) ∗ bigSep (Finset.Ico 1 16) (fun k => iprop(∃ f, xgL c ↦[xgBlk (pinv k)]{fullShare} f))) := by
  rw [xg_all, fam_perm (fun k => iprop(∃ f, xgL c ↦[xgBlk (pinv k)]{fullShare} f)),
    fam_congr (Φ := fun i => iprop(∃ f, xgL c ↦[xgBlk (pinv (perm i))]{fullShare} f)) (Ψ := fun i => iprop(∃ f, xgL c ↦[xgBlk i]{fullShare} f))
      (fun i hi => by rw [pinv_perm i hi])]
  iintro ⟨H0, H⟩
  isplitl [H0]; · iexact H0
  iapply (forget (ℓ := xgL c) (Finset.Ico 1 16) xgBlk f) $$ H

/-! ## The kernel's own semaphores -/

/-- The kernel's own semaphore number `k`, counted from the first that stages nothing. -/
def ownS (k : ℕ) : DmaSem sig := ⟨(k + 1) % 46, Nat.mod_lt _ (by decide)⟩
abbrev osem : Fin 45 → SemLoc sig := fun k => .dma (ownS k.val)

theorem ownSemFacts : Pipeline.OwnSemFacts cfg0.spec osem := by decide +kernel

theorem ownSems0_eq : (Pipeline.ownSems0 (Ix := Unit) (Name := ℕ) (U := UU) (Lvl := ℕ) (Val := Elt F) (τ := τ) osem c : sProp 𝕄)
    = iprop(bigSep (Finset.Ico 0 5) (fun k => semVal ((c : Thread nD τ), .dma (ringS k)) 0)
      ∗ bigSep (Finset.Ico 0 8) (fun t => semVal ((c : Thread nD τ), .dma (outS t)) 0)
      ∗ (semVal (sendCell c 0) 0 ∗ bigSep (Finset.Ico 1 16) (fun i => semVal (sendCell c i) 0))
      ∗ semVal (recvCell c 0) 0 ∗ bigSep (Finset.Ico 1 16) (fun i => semVal (recvCell c i) 0)) := by
  unfold Pipeline.ownSems0
  rw [Ring.bigSep_fin_eq_range 45 _ (fun k => semVal ((c : Thread nD τ), .dma (ownS k)) 0) (fun t h => rfl),
    show Finset.range 45 = Finset.Ico 0 45 by rw [Finset.range_eq_Ico],
    fam_split (by decide : 0 ≤ 5) (by decide : 5 ≤ 45), fam_split (by decide : 5 ≤ 13) (by decide : 13 ≤ 45), fam_split (by decide : 13 ≤ 29) (by decide : 29 ≤ 45),
    fam_shift 5 8, fam_shift 13 16, fam_shift 29 16,
    ← fam_head (by decide : 0 < 16) (fun i => semVal (sendCell c i) 0), ← fam_head (by decide : 0 < 16) (fun i => semVal (recvCell c i) 0)]
  have e1 : ∀ k ∈ Finset.Ico 0 5, ownS k = ringS k := by decide
  have e2 : ∀ k ∈ Finset.Ico 0 8, ownS (5 + k) = outS k := by decide
  have e3 : ∀ k ∈ Finset.Ico 0 16, ownS (13 + k) = sendS k := by decide
  have e4 : ∀ k ∈ Finset.Ico 0 16, ownS (29 + k) = recvS k := by decide
  have fe {n : ℕ} {f g : ℕ → DmaSem sig} (h : ∀ k ∈ Finset.Ico 0 n, f k = g k) :
      bigSep (Finset.Ico 0 n) (fun k => (semVal ((c : Thread nD τ), .dma (f k)) 0 : sProp 𝕄)) = bigSep (Finset.Ico 0 n) (fun k => semVal ((c : Thread nD τ), .dma (g k)) 0) :=
    fam_congr fun k hk => by rw [h k hk]
  rw [fe e1, fe e2, fe e3, fe e4]

theorem unscopedSems0_eq : (unscopedSems0 c : sProp 𝕄) = semVal (barCell c) 0 := by
  unfold unscopedSems0; rw [bigSep_eq_bigSepL_of_eq [SemLoc.reg barS] (by decide) (by decide)]; rfl

end Cert.KernelIdealProof

end
-- ==== Proof.Oblige.lean ====
/-
What a device holds before each point of the grid, and that each point's body takes it to the next.
-/
module

public import proofs.«01_k».proof.Proof.Body
public import proofs.«01_k».proof.Proof.Gen.KernelIdeal.Frame
public import proofs.«01_k».proof.Proof.Pieces

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg) (K : Dev nD × Fin 31 → ℕ)
variable (c : Dev nD) (i : grid0.Coords) (a1 : Memref sig .tc .vmem S4096x256 .bf16) (ha : a1.IsWhole)

/-! ## From point to point -/

/-- What the body of point `p` starts from, besides what stays the same throughout. -/
def Mid (p : ℕ) : sProp 𝕄 :=
  if p = 0 then iprop(levAts L lv ∗ XStart c ∗ RingStart m c ∗ AccSt m c 0)
  else if p ≤ 8 then iprop(RingSt m c p ∗ XHalf m c ∗ AccSt m c p ∗ XSent m c)
  else iprop(RingSt m c p ∗ XFull m c ∗ Tail m c p)

/-- The two semaphores of block 0, which nothing uses: a device keeps its own block. -/
def idle0 : sProp 𝕄 := iprop(semVal (sendCell c 0) 0 ∗ semVal (recvCell c 0) 0)

/-- What device `c` holds before point `p`, and after the last. -/
def St (p : ℕ) : sProp 𝕄 := iprop(∃ K, records m K ∗ idle0 c ∗ Mid m c p)

theorem first_run (hx : xM.IsWhole) (hp : (i 0).val = 0) (Wt : Waits sig Unit) :
    iprop(records m K ∗ owes (c : Thread nD τ) (debt c 1 1) Wt ∗ Mid m c 0 ∗ (xM.view.loc (c : Thread nD τ) ↦[Finset.univ]{fullShare} X m c))
      ⊢ run c (atArgs (cc0_body (F := F) i) xM hx)
          (fun _ => iprop(owes0 c ∗ Mid m c 1 ∗ (xM.view.loc (c : Thread nD τ) ↦[Finset.univ]{fullShare} X m c))) := by
  have hb := body_first m c i xM hx (by omega) (open_first m K c i hx hp Wt)
  rw [hp] at hb
  rw [show Mid m c 0 = iprop(levAts L lv ∗ XStart c ∗ RingStart m c ∗ AccSt m c 0) from rfl,
    show Mid m c 1 = iprop(RingSt m c (0 + 1) ∗ XHalf m c ∗ AccSt m c (0 + 1) ∗ XSent m c) from rfl]
  refine BIBase.Entails.trans ?_ (hb.trans (wp_mono _ _ _ fun _ => ?_))
  · iintro ⟨#HR, HO, ⟨#HL, HX, HW, HA⟩, Hx⟩
    isplitr [HA]
    · isplitr
      · isplitr; · iexact HR
        iexact HL
      iframe
    iexact HA
  · iintro ⟨HO, HW, HX, HA, HS, Hx⟩
    iframe

theorem later_run (hp : 1 ≤ (i 0).val) :
    iprop(records m K ∗ owes0 c ∗ Mid m c (i 0).val) ⊢ run c (atArgs (cc0_body (F := F) i) a1 ha) (fun _ => iprop(owes0 c ∗ Mid m c ((i 0).val + 1))) := by
  have hN : (i 0).val < 16 := (i 0).isLt
  by_cases h8 : (i 0).val < 8
  · rw [show Mid m c (i 0).val = iprop(RingSt m c (i 0).val ∗ XHalf m c ∗ AccSt m c (i 0).val ∗ XSent m c) by
        unfold Mid; rw [if_neg (by omega), if_pos (by omega)],
      show Mid m c ((i 0).val + 1) = iprop(RingSt m c ((i 0).val + 1) ∗ XHalf m c ∗ AccSt m c ((i 0).val + 1) ∗ XSent m c) by
        unfold Mid; rw [if_neg (by omega), if_pos (by omega)]]
    refine BIBase.Entails.trans ?_ ((body_first m c i a1 ha h8 (R := XSent m c)
      ((open_issue m c i a1 ha hp (by omega) (by omega) iprop(owes0 c ∗ XHalf m c ∗ XSent m c)).trans (wp_mono _ _ _ fun _ => ?_))).trans (wp_mono _ _ _ fun _ => ?_))
    · iintro ⟨-, HO, HW, HX, HA, HS⟩
      isplitr [HA]
      · iframe
      iexact HA
    · iintro ⟨HW, HO, HX, HS⟩
      iframe
    · iintro ⟨HO, HW, HX, HA, HS⟩
      iframe
  · rw [show Mid m c ((i 0).val + 1) = iprop(RingSt m c ((i 0).val + 1) ∗ XFull m c ∗ Tail m c ((i 0).val + 1)) by
        unfold Mid; rw [if_neg (by omega), if_neg (by omega)]]
    by_cases e8 : (i 0).val = 8
    · rw [show Mid m c (i 0).val = iprop(RingSt m c (i 0).val ∗ XHalf m c ∗ AccSt m c (i 0).val ∗ XSent m c) by
        unfold Mid; rw [if_neg (by omega), if_pos (by omega)]]
      refine BIBase.Entails.trans ?_ (body_second m K c i a1 ha (by omega) (open_half m K c i a1 ha e8))
      iintro ⟨#HR, HO, HW, HX, HA, HS⟩
      isplitr; · iexact HR
      isplitr [HA HS]
      · isplitr; · iexact HR
        iframe
      iframe
    · have hT : Tail m c (i 0).val = iprop(AccSt m c (i 0).val ∗ XSent m c) := if_neg (by omega)
      rw [show Mid m c (i 0).val = iprop(RingSt m c (i 0).val ∗ XFull m c ∗ Tail m c (i 0).val) by
        unfold Mid; rw [if_neg (by omega), if_neg (by omega)], hT]
      have ho : iprop(RingSt m c (i 0).val ∗ (owes0 c ∗ XFull m c)) ⊢ run c (atArgs (k0_part38 (F := F) i) a1 ha)
          (fun _ => iprop(RingMid m c (i 0).val ∗ owes0 c ∗ XFull m c)) := by
        by_cases h12 : (i 0).val < 12
        · exact open_issue m c i a1 ha hp h12 e8 _
        · exact open_late m c i a1 ha (by omega) _
      refine BIBase.Entails.trans ?_ (body_second m K c i a1 ha (by omega) ho)
      iintro ⟨#HR, HO, HW, HX, HA, HS⟩
      isplitr; · iexact HR
      isplitr [HA HS]
      · iframe
      iframe

/-! ## The proof data -/

/-- What device `c` owes before point `p`. -/
def owedAt (p : ℕ) : CellTallies nD τ sig Unit := if p = 0 then debt c 1 1 else 0
theorem owedAt_later {p : ℕ} (h : p ≠ 0) : owedAt c p = 0 := if_neg h

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
  Φ t := St m c t.val
  q _ := fullShare
  owed t := owedAt c t.val

theorem before_x (t : Fin cfg0.N) (d) : (dats m ρ 0 c).before (0 : Fin 1) t d = iblk m c 0 t :=
  ((dats m ρ 0 c).before_in_eq_fetched 0 rfl (fun _ => rfl) (fun _ _ _ => rfl) (fun t => rfl) t d).trans rfl

/-- The one block of the activations is all of them. -/
theorem iblk_x (t : Fin cfg0.N) : iblk m c 0 t = X m c := by
  funext y
  unfold iblk X
  show m _ _ = m _ _
  congr 1
  funext a
  refine Fin.ext ?_
  fin_cases a <;> simp <;> rfl

theorem coord (t : Fin grid0.N) : ((grid0.coords t) 0).val = t.val := by
  rcases fin_N0 t with h | h | h | h | h | h | h | h | h | h | h | h | h | h | h | h <;> subst h <;> rfl

theorem owns_x (Y : cc0_stg0_0.ty.Contents (Elt F)) :
    (owns (Ix := Unit) (Name := ℕ) (U := UU) (Lvl := ℕ) (c : Thread nD τ) (Memref.whole cc0_stg0_0) fullShare Y : sProp 𝕄)
      = (xM.view.loc (c : Thread nD τ) ↦[Finset.univ]{fullShare} Y) := by
  rw [owns_whole]

/-- The library's body obligation on device `c`. -/
theorem body_obligation : BodyObligation (dats m ρ 0 c) (defs₀ (F := F)) 𝒱₀ () Set.univ := fun t => by
  rw [bigSep_W0, bigSep_W0]
  show iprop(St m c t.val ∗ (dats m ρ 0 c).owesAt () t.castSucc ∗ ∃ d, owns (c : Thread nD τ) (st0_0 t) fullShare ((dats m ρ 0 c).before (0 : Fin 1) t d))
    ⊢ run c (bodyAt0 t) (fun _ => iprop(St m c (t.val + 1) ∗ (dats m ρ 0 c).owesAt () t.succ ∗ owns (c : Thread nD τ) (st0_0 t) fullShare (iblk m c 0 t)))
  have hs : (dats m ρ 0 c).owed t.succ = 0 := owedAt_later c (show t.val + 1 ≠ 0 from Nat.succ_ne_zero _)
  have ho : owes0 c ⊢ (dats m ρ 0 c).owesAt () t.succ := by
    unfold Dat.owesAt Pipeline.owesWithin owes0
    rw [hs]
    iintro ⟨%Wt, H⟩
    iexists Wt
    isplitr; · ipureintro; exact fun _ _ => Or.inl trivial
    iexact H
  have hx (d) : (dats m ρ 0 c).before (0 : Fin 1) t d = iblk m c 0 t := before_x m ρ c t d
  by_cases h0 : t.val = 0
  · obtain rfl : t = t0_0 := Fin.ext h0
    unfold St
    iintro ⟨⟨%K, #HR, HI, HM⟩, HO, ⟨%d, Hx⟩⟩
    unfold Dat.owesAt Pipeline.owesWithin
    icases HO with ⟨%Wt, -, HO⟩
    rw [hx d, iblk_x]
    ihave Hx := (show owns (c : Thread nD τ) (st0_0 t0_0) fullShare (X m c) ⊢ (xM.view.loc (c : Thread nD τ) ↦[Finset.univ]{fullShare} X m c : sProp 𝕄) from
      Entails.of_eq (owns_x c (X m c))) $$ Hx
    rw [show (dats m ρ 0 c).owed t0_0.castSucc = debt c 1 1 from rfl]
    iapply ((first_run m K c (grid0.coords t0_0) (hstage0_0 ((cfg0.slots t0_0 0).cast nbuf0_0)) (coord t0_0) Wt).trans (wp_wand _ _ _)) $$ [HO HM Hx]
    · isplitr; · iexact HR
      isplitl [HO]; · iexact HO
      isplitl [HM]; · iexact HM
      iexact Hx
    iintro %r ⟨HO, HM, Hx⟩
    isplitl [HI HM]
    · iexists K
      isplitr; · iexact HR
      isplitl [HI]; · iexact HI
      iexact HM
    isplitl [HO]; · iapply ho $$ HO
    iapply (show (xM.view.loc (c : Thread nD τ) ↦[Finset.univ]{fullShare} X m c : sProp 𝕄) ⊢ owns (c : Thread nD τ) (st0_0 t0_0) fullShare (X m c) from
      Entails.of_eq (owns_x c (X m c)).symm) $$ Hx
  · unfold St
    iintro ⟨⟨%K, #HR, HI, HM⟩, HO, ⟨%d, Hx⟩⟩
    ihave HO := (show (dats m ρ 0 c).owesAt () t.castSucc ⊢ owes0 c by
      unfold Dat.owesAt Pipeline.owesWithin owes0
      rw [show (dats m ρ 0 c).owed t.castSucc = 0 from owedAt_later c h0]
      iintro ⟨%Wt, -, H⟩
      iexists Wt
      iexact H) $$ HO
    have hr := later_run m K c (grid0.coords t) (st0_0 t) (hstage0_0 ((cfg0.slots t 0).cast nbuf0_0)) (by rw [coord]; omega)
    rw [coord] at hr
    iapply (hr.trans (wp_wand _ _ _)) $$ [HO HM]
    · isplitr; · iexact HR
      iframe
    iintro %r ⟨HO, HM⟩
    isplitl [HI HM]
    · iexists K
      isplitr; · iexact HR
      isplitl [HI]; · iexact HI
      iexact HM
    isplitl [HO]; · iapply ho $$ HO
    rw [hx d]
    iexact Hx

end Cert.KernelIdealProof

end
-- ==== Proof.Ends.lean ====
/-
A device's part of the launch made into what its first point starts from, and what its last point leaves made into what the launch takes back.
-/
module

public import proofs.«01_k».proof.Proof.Oblige

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-! ## What the launch deals a device -/

def positions : sProp 𝕄 :=
  iprop(atPos ER (barCell c) 0 ∅ 0 ∗ bigSep (Finset.Ico 1 16) (fun i => atPos ER (sendCell c i) 0 ∅ 0) ∗ bigSep (Finset.Ico 1 16) (fun i => atPos ER (recvCell c i) 0 ∅ 0))
/-- The duties device `c` pays. -/
def payToks : sProp 𝕄 :=
  iprop(bigSep (Finset.Ico 1 16) (fun k => dutyTok ER (barCell (dev c k)) 0 k) ∗ bigSep (Finset.Ico 1 16) (sndTok (F := F) c))
/-- Its own copies' semaphores, and the two nothing uses. -/
def localSems : sProp 𝕄 :=
  iprop(idle0 c ∗ bigSep (Finset.Ico 0 5) (fun k => semVal ((c : Thread nD τ), .dma (ringS k)) 0)
    ∗ bigSep (Finset.Ico 0 8) (fun t => semVal ((c : Thread nD τ), .dma (outS t)) 0))
def G' : sProp 𝕄 := iprop(∃ K, records m K ∗ positions c ∗ payToks c ∗ localSems c)
def start : sProp 𝕄 :=
  iprop(G' m c ∗ (cred (tallyAt (barCell c) () 15) ∗ bigSep (Finset.Ico 1 16) (fun i => cred (tallyAt (recvCell c i) () N))) ∗ levAts L lv
    ∗ (wL c ↦[Finset.univ]{fullShare} W m c) ∗ ∃ f, yL c ↦[Finset.univ]{fullShare} f)

/-- A device's scratch buffers, holding anything. -/
def scratch : sProp 𝕄 :=
  iprop((∃ f, xbL c ↦[Finset.univ]{fullShare} f) ∗ (∃ f, xgL c ↦[Finset.univ]{fullShare} f) ∗ (∃ f, oL c ↦[Finset.univ]{fullShare} f) ∗ ∃ f, rL c ↦[Finset.univ]{fullShare} f)

theorem scratch_eq : (Pipeline.scopedRest (Ix := Unit) (Name := ℕ) (U := UU) (Lvl := ℕ) (Val := Elt F) cfg0.spec c : sProp 𝕄) = scratch c := by
  unfold scratch
  exact scopedRest0_eq c

/-! ## Into the first point -/

theorem tiles_in (f : Vec F S256x8192 .f32) : (oL c ↦[Finset.univ]{fullShare} f : sProp 𝕄) ⊢ bigSep (Finset.Ico 0 8) (fun t => iprop(∃ f, oL c ↦[oTl t]{fullShare} f)) := by
  rw [cut (ℓ := oL c) (Finset.Ico 0 8) oTl f o_disj o_cover]
  exact forget (ℓ := oL c) _ _ f
theorem outs_in (f : Vec F S256x8192 .f32) : (yL c ↦[Finset.univ]{fullShare} f : sProp 𝕄) ⊢ bigSep (Finset.Ico 0 8) (fun t => iprop(∃ f, yL c ↦[oTl t]{fullShare} f)) := by
  rw [cut (ℓ := yL c) (Finset.Ico 0 8) oTl f o_disj o_cover]
  exact forget (ℓ := yL c) _ _ f
theorem slots_in (f : Vec F S5x2048x1024 .bf16) : (rL c ↦[Finset.univ]{fullShare} f : sProp 𝕄) ⊢ bigSep (Finset.Ico 0 5) (fun k => iprop(∃ f, rL c ↦[rSl (k % 5)]{fullShare} f)) := by
  rw [cut (ℓ := rL c) (Finset.Ico 0 5) (fun k => rSl (k % 5)) f (r_disj 0) (r_cover 0)]
  exact forget (ℓ := rL c) _ (fun k => rSl (k % 5)) f

theorem enter : iprop(start m c ∗ scratch c) ⊢ St m c 0 := by
  unfold start G' scratch St
  rw [w_split]
  iintro ⟨⟨⟨%K, #HR, HP, HT, HL⟩, ⟨HcB, HcR⟩, Hlev, HW, ⟨%fy, HY⟩⟩, Hxb, ⟨%fg, HXg⟩, ⟨%fo, HO⟩, ⟨%fr, HRr⟩⟩
  unfold positions payToks localSems
  icases HP with ⟨HPb, HPs, HPr⟩
  icases HT with ⟨HTb, HTs⟩
  icases HL with ⟨HI, HSr, HSo⟩
  ihave HXg := (xg_start c fg) $$ HXg
  icases HXg with ⟨HXg0, HXgs⟩
  ihave HO := (tiles_in c fo) $$ HO
  ihave HY := (outs_in c fy) $$ HY
  ihave HRr := (slots_in c fr) $$ HRr
  iexists K
  isplitr; · iexact HR
  isplitl [HI]; · iexact HI
  rw [show Mid m c 0 = iprop(levAts L lv ∗ XStart c ∗ RingStart m c ∗ AccSt m c 0) from rfl]
  isplitl [Hlev]; · iexact Hlev
  unfold XStart RingStart AccSt atBar
  rw [show bigSep (Finset.Ico 1 16) (sigItem (F := F) c) = iprop(bigSep (Finset.Ico 1 16) (fun k => dutyTok ER (barCell (dev c k)) 0 k)
      ∗ bigSep (Finset.Ico 1 16) (fun k => iprop(∃ f, xgL c ↦[xgBlk (pinv k)]{fullShare} f))) from fam_sep 1 16 _ _,
    show bigSep (Finset.Ico 1 16) (atRecv (F := F) c) = iprop(bigSep (Finset.Ico 1 16) (fun i => cred (tallyAt (recvCell c i) () N))
      ∗ bigSep (Finset.Ico 1 16) (fun i => atPos ER (recvCell c i) 0 ∅ 0)) from fam_sep 1 16 _ _,
    show bigSep (Finset.Ico 0 5) (Free (F := F) c) = iprop(bigSep (Finset.Ico 0 5) (fun k => semVal ((c : Thread nD τ), .dma (ringS k)) 0)
      ∗ bigSep (Finset.Ico 0 5) (fun k => iprop(∃ f, rL c ↦[rSl (k % 5)]{fullShare} f))) from fam_sep 0 5 _ _,
    show 0 - 8 = 0 from rfl, show min 0 8 = 0 from rfl,
    show bigSep (Finset.Ico 0 8) (OutIdle (F := F) c) = iprop(bigSep (Finset.Ico 0 8) (fun t => semVal ((c : Thread nD τ), .dma (outS t)) 0)
      ∗ bigSep (Finset.Ico 0 8) (fun t => iprop(∃ f, yL c ↦[oTl t]{fullShare} f))) from fam_sep 0 8 _ _,
    fam_nil, fam_nil]
  isplitl [HTb HXgs HcB HPb HTs HcR HPr HPs Hxb HXg0]
  · isplitl [HTb HXgs]; · iframe
    isplitl [HcB HPb]; · iframe
    isplitl [HTs]; · iexact HTs
    isplitl [HcR HPr]; · iframe
    isplitl [HPs]; · iexact HPs
    isplitl [Hxb]; · iexact Hxb
    iexists fg; iexact HXg0
  isplitl [HSr HRr HW]
  · isplitl [HSr HRr]; · iframe
    iexact HW
  isplitr; · iempintro
  isplitl [HSo HY]; · iframe
  isplitr; · iempintro
  iexact HO

/-! ## Out of the last -/

def final : sProp 𝕄 := iprop(semVal (barCell c) 0 ∗ (wL c ↦[Finset.univ]{fullShare} W m c) ∗ (yL c ↦[Finset.univ]{fullShare} oC2 m c))

/-- The ring's semaphores once round from where they began. -/
theorem ring_round (Φ : ℕ → sProp 𝕄) (hΦ : ∀ i ∈ Finset.Ico 0 5, Φ (16 + i) = Φ ((i + 1) % 5)) : bigSep (Finset.Ico 16 21) Φ = bigSep (Finset.Ico 0 5) Φ := by
  rw [show (21 : ℕ) = 16 + 5 from rfl, fam_shift, fam_congr hΦ,
    ← bigSep_image_of_injOn (f := fun i => (i + 1) % 5) (s := Finset.Ico 0 5) (by
      intro a ha b hb e
      rw [Finset.mem_coe, Finset.mem_Ico] at ha hb
      replace e : (a + 1) % 5 = (b + 1) % 5 := e
      omega) Φ,
    show (Finset.Ico 0 5).image (fun i => (i + 1) % 5) = Finset.Ico 0 5 by decide]

theorem slots_out (f₀ : Vec F S5x2048x1024 .bf16) :
    bigSep (Finset.Ico 16 21) (fun k => iprop(∃ f, rL c ↦[rSl (k % 5)]{fullShare} f)) ⊢ (iprop(∃ f, rL c ↦[Finset.univ]{fullShare} f) : sProp 𝕄) :=
  glue (ℓ := rL c) (Finset.Ico 16 21) (fun k => rSl (k % 5)) f₀ (r_disj 16) (r_cover 16)

theorem leave : St m c 16 ⊢ iprop(final m c ∗ (Pipeline.ownSems0 osem c : sProp 𝕄) ∗ scratch c) := by
  unfold St final scratch
  rw [ownSems0_eq, show Mid m c 16 = iprop(RingSt m c 16 ∗ XFull m c ∗ OwtSt m c 8 ∗ XDone m c) from rfl]
  unfold RingSt XFull OwtSt XDone RcvSt SwtSt idle0
  rw [show Finset.Ico (16 + 4) 16 = ∅ by decide, bigSep_empty, fam_nil, fam_nil, fam_nil,
    fam_sep 1 16, fam_sep 1 16, fam_sep 0 8,
    show bigSep (Finset.Ico 16 (16 + 4)) (slotAt m c) = bigSep (Finset.Ico 16 (16 + 4)) (Free c) from
      fam_congr fun k hk => if_neg (by rw [Finset.mem_Ico] at hk; omega)]
  iintro ⟨%K, -, ⟨HS0, HV0⟩, ⟨HW, HF, -, HF'⟩, ⟨⟨-, HRp, HRs⟩, HXg⟩, ⟨-, HTl, HOs⟩, HXb, ⟨-, HSp, HSs⟩, HB⟩
  ihave HF := (Entails.of_eq (show iprop(bigSep (Finset.Ico 16 (16 + 4)) (Free (F := F) c) ∗ Free c (16 + 4))
      = iprop(bigSep (Finset.Ico 0 5) (fun k => semVal ((c : Thread nD τ), .dma (ringS k)) 0)
        ∗ bigSep (Finset.Ico 16 21) (fun k => iprop(∃ f, rL c ↦[rSl (k % 5)]{fullShare} f))) by
    rw [← fam_snoc (by decide) (Free (F := F) c), show bigSep (Finset.Ico 16 (16 + 4 + 1)) (Free (F := F) c)
      = iprop(bigSep (Finset.Ico 16 21) (fun k => semVal ((c : Thread nD τ), .dma (ringS k)) 0)
        ∗ bigSep (Finset.Ico 16 21) (fun k => iprop(∃ f, rL c ↦[rSl (k % 5)]{fullShare} f))) from fam_sep 16 21 _ _,
      ring_round (fun k => semVal ((c : Thread nD τ), .dma (ringS k)) 0) (by
        intro i hi
        rw [show ringS (16 + i) = ringS ((i + 1) % 5) from (by decide : ∀ i ∈ Finset.Ico 0 5, ringS (16 + i) = ringS ((i + 1) % 5)) i hi])])) $$ [HF HF']
  · iframe
  icases HF with ⟨HSr, HRr⟩
  ihave HRr := (slots_out c (rC m c 0)) $$ HRr
  ihave HTl := (Entails.of_eq (show bigSep (Finset.Ico 0 8) (tileD m c)
      = iprop((yL c ↦[Finset.univ]{fullShare} oC2 m c) ∗ (oL c ↦[Finset.univ]{fullShare} oC2 m c)) by
    rw [cut (ℓ := yL c) (Finset.Ico 0 8) oTl _ o_disj o_cover, cut (ℓ := oL c) (Finset.Ico 0 8) oTl _ o_disj o_cover]
    exact fam_sep 0 8 _ _)) $$ HTl
  icases HTl with ⟨HY, HO⟩
  ihave HXb := (Entails.of_eq (xb_split m c).symm) $$ [HXb HSp]
  · isplitl [HXb] <;> iassumption
  ihave HXg := (Entails.of_eq (xg_all c (xgC m c)).symm) $$ [HXg HRp]
  · isplitl [HXg]; · iexact HXg
    iexact HRp
  isplitl [HB HW HY]
  · isplitl [HB]; · iexact HB
    isplitl [HW]
    · rw [w_split]; iexact HW
    iexact HY
  isplitl [HS0 HV0 HSr HOs HSs HRs]
  · iframe
  isplitl [HXb]; · iexists _; iexact HXb
  isplitl [HXg]; · iexists _; iexact HXg
  isplitl [HO]; · iexists _; iexact HO
  iexact HRr

end Cert.KernelIdealProof

end
-- ==== Proof.Deal.lean ====
/-
What the launch mints for the schedule, handed out to the devices: every cell opened, every duty's token to the device that pays it, and each device's launch credit.
-/
module

public import proofs.«01_k».proof.Proof.Ends

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-! ## Cells and tokens -/

theorem csem_inj : Function.Injective csem := by decide +kernel

theorem kcell_inj : Function.Injective (kcell : Dev nD × Fin 31 → GSem nD τ sig) := by
  rintro ⟨c, k⟩ ⟨c', k'⟩ h
  exact Prod.ext (congrArg (fun g : GSem nD τ sig => g.1.1) h) (csem_inj (congrArg Prod.snd h))
def allCells : Finset (GSem nD τ sig) := Finset.univ.map ⟨kcell, kcell_inj⟩

/-- The duties on a device's own cells: a unit of its barrier for each other device, a block out and a block in for each. -/
def tokSem (n : ℕ) : SemLoc sig × ℕ :=
  if n < 15 then (.reg barS, 1 + n) else if n < 30 then (.dma (sendS (n - 14)), 0) else (.dma (recvS (n - 29)), 0)
theorem tokSem_inj : Function.Injective (fun n : Fin 45 => tokSem n.val) := by decide +kernel
abbrev tokOf (cn : Dev nD × Fin 45) : GSem nD τ sig × ℕ × ℕ := (((cn.1 : Thread nD τ), (tokSem cn.2.val).1), 0, (tokSem cn.2.val).2)
theorem tokOf_inj : Function.Injective (tokOf : Dev nD × Fin 45 → GSem nD τ sig × ℕ × ℕ) := by
  rintro ⟨c, n⟩ ⟨c', n'⟩ h
  exact Prod.ext (congrArg (fun x : GSem nD τ sig × ℕ × ℕ => x.1.1.1) h)
    (tokSem_inj (congrArg (fun x : GSem nD τ sig × ℕ × ℕ => (x.1.2, x.2.2)) h))
def allToks : Finset (GSem nD τ sig × ℕ × ℕ) := Finset.univ.map ⟨tokOf, tokOf_inj⟩

def u₀ : UU :=
  (initOf (Pipeline.cells cfgs cellOf_inj) (Pipeline.launchToks cfgs cellOf_inj), (initOf allCells allToks, 1))

/-! ## A family over the cells of one device, by kind -/

theorem fam_add (a p q : ℕ) (Φ : ℕ → sProp 𝕄) : bigSep (Finset.Ico (a + p) (a + q)) Φ = bigSep (Finset.Ico p q) (fun i => Φ (a + i)) := by
  rw [show Finset.Ico (a + p) (a + q) = (Finset.Ico p q).image (fun i => a + i) by
    ext x; simp only [Finset.mem_Ico, Finset.mem_image]
    exact ⟨fun h => ⟨x - a, by omega, by omega⟩, fun ⟨y, hy, e⟩ => by omega⟩]
  exact bigSep_image_of_injOn (fun x _ y _ e => by simpa using e) Φ

theorem three {A A' B B' C C' : sProp 𝕄} (a : A = A') (b : B = B') (c : C = C') : iprop(A ∗ B ∗ C) = iprop(A' ∗ B' ∗ C') := by rw [a, b, c]

theorem by_kind (Φ : SemLoc sig → sProp 𝕄) : bigSep Finset.univ (fun k : Fin 31 => Φ (csem k))
    = iprop(Φ (.reg barS) ∗ bigSep (Finset.Ico 1 16) (fun i => Φ (.dma (sendS i))) ∗ bigSep (Finset.Ico 1 16) (fun i => Φ (.dma (recvS i)))) := by
  rw [Ring.bigSep_fin_eq_range 31 (fun k : Fin 31 => Φ (csem k))
      (fun n => Φ (if n = 0 then .reg barS else if n ≤ 15 then .dma (sendS n) else .dma (recvS (n - 15)))) (fun k _ => rfl),
    Finset.range_eq_Ico, fam_head (by decide : 0 < 31), fam_split (by decide : 0 + 1 ≤ 16) (by decide : 16 ≤ 31),
    show Finset.Ico 16 31 = Finset.Ico (15 + 1) (15 + 16) from rfl, fam_add]
  exact three rfl
    (fam_congr fun i hi => by rw [Finset.mem_Ico] at hi; rw [if_neg (by omega), if_pos (by omega)])
    (fam_congr fun i hi => by rw [Finset.mem_Ico] at hi; rw [if_neg (by omega), if_neg (by omega), Nat.add_sub_cancel_left])

/-- A device's own duties, as minted. -/
def ownToks (c : Dev nD) : sProp 𝕄 :=
  iprop(bigSep (Finset.Ico 1 16) (fun d => dutyTok ER (barCell c) 0 d)
    ∗ bigSep (Finset.Ico 1 16) (fun i => dutyTok ER (sendCell c i) 0 0) ∗ bigSep (Finset.Ico 1 16) (fun i => dutyTok ER (recvCell c i) 0 0))

theorem toks_by_kind (c : Dev nD) :
    bigSep Finset.univ (fun n : Fin 45 => (dutyTok ER (tokOf (c, n)).1 (tokOf (c, n)).2.1 (tokOf (c, n)).2.2 : sProp 𝕄)) = ownToks c := by
  rw [Ring.bigSep_fin_eq_range 45 (fun n : Fin 45 => (dutyTok ER (tokOf (c, n)).1 (tokOf (c, n)).2.1 (tokOf (c, n)).2.2 : sProp 𝕄))
      (fun n => dutyTok ER ((c : Thread nD τ), (tokSem n).1) 0 (tokSem n).2) (fun n _ => rfl),
    Finset.range_eq_Ico, fam_split (by decide : 0 ≤ 15) (by decide : 15 ≤ 45), fam_split (by decide : 15 ≤ 30) (by decide : 30 ≤ 45),
    show Finset.Ico 15 30 = Finset.Ico (14 + 1) (14 + 16) from rfl, fam_add,
    show Finset.Ico 30 45 = Finset.Ico (29 + 1) (29 + 16) from rfl, fam_add]
  unfold ownToks
  refine three ?_ (fam_congr fun i hi => ?_) (fam_congr fun i hi => ?_)
  · rw [show Finset.Ico 1 16 = Finset.Ico (1 + 0) (1 + 15) from rfl, fam_add]
    refine fam_congr fun i hi => ?_
    rw [Finset.mem_Ico] at hi
    rw [show tokSem i = (.reg barS, 1 + i) from if_pos (by omega)]
  · rw [Finset.mem_Ico] at hi
    rw [show tokSem (14 + i) = (.dma (sendS i), 0) by unfold tokSem; rw [if_neg (by omega), if_pos (by omega), Nat.add_sub_cancel_left]]
  · rw [Finset.mem_Ico] at hi
    rw [show tokSem (29 + i) = (.dma (recvS i), 0) by unfold tokSem; rw [if_neg (by omega), if_neg (by omega), Nat.add_sub_cancel_left]]

/-! ## Minting -/

/-- What the launch element deals device `c`. -/
def G (c : Dev nD) : sProp 𝕄 :=
  iprop((bigSep Finset.univ fun k : Fin 31 => roundState ER (Rd m) (kcell (c, k)) 0)
    ∗ (bigSep Finset.univ fun k : Fin 31 => reached ER (kcell (c, k)) 0)
    ∗ (bigSep Finset.univ fun k : Fin 31 => atPos ER (kcell (c, k)) 0 ∅ 0) ∗ ownToks c)

theorem cells_by_dev (Φ : GSem nD τ sig → sProp 𝕄) :
    bigSep allCells Φ = bigSep Finset.univ fun c : Dev nD => bigSep Finset.univ fun k : Fin 31 => Φ (kcell (c, k)) := by
  unfold allCells; rw [bigSep_map, bigSep_univ_prod]; rfl

theorem mint : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => toks_by_kind c
  have h := Rounds.fund ER (Rd m) allCells allToks
  rw [hT, cells_by_dev (fun g => roundState ER (Rd m) g 0), cells_by_dev (fun g => reached ER g 0), cells_by_dev (fun g => atPos ER g 0 ∅ 0)] at h
  unfold G
  simp only [bigSep_sep']
  exact h

/-! ## The cells opened -/

theorem sems_by_use (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 31 => semVal (kcell (c, k)) 0) ∗ localSems c) : sProp 𝕄) := by
  rw [ownSems0_eq, unscopedSems0_eq, by_kind (fun s => semVal ((c : Thread nD τ), s) 0)]
  unfold localSems idle0
  iintro ⟨⟨HR, HO, ⟨HS0, HS⟩, HV0, HV⟩, HB⟩
  isplitl [HB HS HV]
  · isplitl [HB]; · iexact HB
    isplitl [HS] <;> iassumption
  isplitl [HS0 HV0]
  · isplitl [HS0] <;> iassumption
  isplitl [HR] <;> iassumption

theorem open_cells (c : Dev nD) :
    iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- One device's share of the opened state. -/
def dealt (c : Dev nD) : sProp 𝕄 :=
  iprop((bigSep Finset.univ fun k : Fin 31 => iprop(∃ κ : ℕ, cellInv ER (Rd m) κ (kcell (c, k))))
    ∗ (bigSep Finset.univ fun k : Fin 31 => reached ER (kcell (c, k)) 0)
    ∗ (positions c ∗ localSems c) ∗ ownToks c)

theorem deal (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  unfold G dealt positions
  rw [by_kind (fun s => atPos ER ((c : Thread nD τ), s) 0 ∅ 0)]
  iintro ⟨Hos, Hus, Hst, Hr, Hat, Htok⟩
  ihave Hv := (sems_by_use (F := F) c) $$ [Hos Hus]
  · isplitl [Hos] <;> iassumption
  icases Hv with ⟨Hv, Hl⟩
  imod (open_cells m c) $$ [Hv Hst] with Hinv
  · isplitl [Hv] <;> iassumption
  imodintro
  isplitl [Hinv]; · iexact Hinv
  isplitl [Hr]; · iexact Hr
  isplitr [Htok]
  · isplitl [Hat]; · iexact Hat
    iexact Hl
  iexact Htok

/-! ## Each duty's token to the device that pays it -/

/-- The device `k` further round, for every device at once. -/
def rot (k : ℕ) : Dev nD ≃ Dev nD where
  toFun c := dev c k
  invFun c := dev c (16 - k % 16)
  left_inv c := dev_dev c _ _ (by omega)
  right_inv c := dev_dev c _ _ (by omega)

theorem fam_comm (t : Finset ℕ) (Φ : Dev nD → ℕ → sProp 𝕄) :
    (bigSep Finset.univ fun c => bigSep t (Φ c)) = bigSep t fun k => bigSep Finset.univ fun c => Φ c k := by
  induction t using Finset.induction_on with
  | empty => simp
  | insert k t hk ih =>
    rw [bigSep_insert hk, ← ih]
    exact (bigSep_congr fun c _ => bigSep_insert hk).trans (bigSep_sep' Finset.univ (fun c => Φ c k) (fun c => bigSep t (Φ c)))

theorem fam_rot (σ : ℕ → ℕ) (Φ : Dev nD → ℕ → sProp 𝕄) :
    (bigSep Finset.univ fun c => bigSep (Finset.Ico 1 16) (Φ c)) = bigSep Finset.univ fun c => bigSep (Finset.Ico 1 16) fun k => Φ (dev c (σ k)) k := by
  rw [fam_comm, fam_comm]
  exact bigSep_congr fun k _ => bigSep_univ_equiv (rot (σ k)) (fun c => Φ c k)

theorem hand_out : (bigSep Finset.univ fun c : Dev nD => (ownToks c : sProp 𝕄)) = bigSep Finset.univ fun c : Dev nD => payToks c := by
  unfold ownToks payToks
  simp only [bigSep_sep']
  rw [fam_rot (fun k => k) (fun c d => dutyTok ER (barCell c) 0 d), fam_rot (fun k => 16 - perm k) (fun c i => dutyTok ER (recvCell c i) 0 0),
    ← bigSep_sep' Finset.univ (fun c : Dev nD => bigSep (Finset.Ico 1 16) fun i => dutyTok ER (sendCell c i) 0 0)]
  congr 1
  exact bigSep_congr fun c _ => (fam_sep 1 16 _ _).symm

theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather : (bigSep Finset.univ (dealt m) : sProp 𝕄) ⊢ bigSep Finset.univ (G' m) := by
  unfold dealt
  rw [bigSep_sep', bigSep_sep', bigSep_sep', hand_out, ← bigSep_univ_prod (fun ck : Dev nD × Fin 31 => iprop(∃ κ : ℕ, cellInv ER (Rd m) κ (kcell ck))),
    ← bigSep_univ_prod (fun ck : Dev nD × Fin 31 => (reached ER (kcell ck) 0 : sProp 𝕄))]
  iintro ⟨HI, #HR, Hpos, Htok⟩
  ihave HK := (BI.bigSep_exists_pi Finset.univ (fun (ck : Dev nD × Fin 31) (κ : ℕ) => (cellInv ER (Rd m) κ (kcell ck) : sProp 𝕄))) $$ HI
  icases HK with ⟨%K, #HI⟩
  ihave H := (Entails.of_eq (bigSep_sep' Finset.univ (fun c : Dev nD => (iprop(positions c ∗ localSems c) : sProp 𝕄)) payToks).symm) $$ [Hpos Htok]
  · isplitl [Hpos] <;> iassumption
  iapply (beside (R := records m K) fun c _ => show iprop(records m K ∗ (positions c ∗ localSems c) ∗ payToks c) ⊢ G' m c from by
    unfold G'
    iintro ⟨HR, ⟨HP, HL⟩, HT⟩
    iexists K
    iframe)
  isplitr
  · unfold records; isplitl; · iexact HI
    iexact HR
  · iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => deal m c).trans (bigSep_fupd _ _)).trans (BI.fupd_mono (gather m))

/-! ## The launch credit -/

/-- One unit owed on the like cell of each device: each is owed just that. -/
theorem owed_each (cell : Dev nD → GSem nD τ sig) (hc : ∀ a b, cell a = cell b → a = b) (n : ℕ) (c : Dev nD) :
    (∑ e : Dev nD, (tallyAt (cell e) () n : CellTallies nD τ sig Unit) (cell c) ()) = n := by
  rw [Finset.sum_eq_single c (fun e _ he => by rw [tallyAt_ne_cell (fun h => he (hc _ _ h).symm)]; rfl) (fun h => absurd (Finset.mem_univ _) h), tallyAt_apply,
    if_pos ⟨rfl, rfl⟩]

theorem owed_round (σ : ℕ → ℕ) (T : ℕ → Dev nD → ℕ) : (∑ d : Dev nD, ∑ k ∈ Finset.Ico 1 16, T k (dev d (σ k))) = ∑ k ∈ Finset.Ico 1 16, ∑ e : Dev nD, T k e := by
  rw [Finset.sum_comm]
  exact Finset.sum_congr rfl fun k _ => (rot (σ k)).sum_comp (T k)

theorem owed_debt (g : GSem nD τ sig) : (∑ d : Dev nD, debt d 1 1 g ())
    = (∑ k ∈ Finset.Ico 1 16, ∑ e : Dev nD, (tallyAt (recvCell e k) () N : CellTallies nD τ sig Unit) g ())
      + ∑ k ∈ Finset.Ico 1 16, ∑ e : Dev nD, (tallyAt (barCell e) () 1 : CellTallies nD τ sig Unit) g () := by
  unfold debt
  simp only [Pi.add_apply, Finsupp.add_apply, Finset.sum_apply, Finsupp.finset_sum_apply]
  rw [Finset.sum_add_distrib]
  exact congrArg₂ (· + ·) (owed_round (fun k => 16 - perm k) fun k e => (tallyAt (recvCell e k) () N : CellTallies nD τ sig Unit) g ())
    (owed_round (fun k => k) fun k e => (tallyAt (barCell e) () 1 : CellTallies nD τ sig Unit) g ())

theorem dev_of_cell {a b : Dev nD} {s t : SemLoc sig} (h : (((a : Thread nD τ), s) : GSem nD τ sig) = ((b : Thread nD τ), t)) : a = b :=
  congrArg (fun g : GSem nD τ sig => g.1.1) h
theorem recvS_inj {i j : ℕ} (hi : i ∈ Finset.Ico 1 16) (hj : j ∈ Finset.Ico 1 16) (h : recvS i = recvS j) : i = j :=
  (by decide : ∀ i ∈ Finset.Ico 1 16, ∀ j ∈ Finset.Ico 1 16, recvS i = recvS j → i = j) i hi j hj h

theorem dma_ne_reg (q : DmaSem sig) : (SemLoc.dma q : SemLoc sig) ≠ .reg barS := fun h => by cases h

def O₀ (c : Dev nD) : CellTallies nD τ sig Unit := debt c 1 1

theorem owed_bar (c : Dev nD) : (∑ d : Dev nD, debt d 1 1 (barCell c) ()) = 15 := by
  rw [owed_debt, Finset.sum_eq_zero fun k _ => Finset.sum_eq_zero fun e _ => by
      rw [tallyAt_ne_cell (fun h => dma_ne_reg _ (congrArg Prod.snd h).symm)]; rfl,
    Finset.sum_congr rfl fun k _ => owed_each barCell (fun a b h => dev_of_cell h) 1 c]
  rfl

theorem owed_recv (c : Dev nD) {i : ℕ} (hi : i ∈ Finset.Ico 1 16) : (∑ d : Dev nD, debt d 1 1 (recvCell c i) ()) = N := by
  rw [owed_debt, Finset.sum_eq_zero (s := Finset.Ico 1 16) (f := fun k => ∑ e : Dev nD, (tallyAt (barCell e) () 1 : CellTallies nD τ sig Unit) (recvCell c i) ())
      (fun k _ => Finset.sum_eq_zero fun e _ => by rw [tallyAt_ne_cell (fun h => dma_ne_reg _ (congrArg Prod.snd h))]; rfl),
    Finset.sum_eq_single i (fun k hk hne => Finset.sum_eq_zero fun e _ => by
      rw [tallyAt_ne_cell (fun h => hne (recvS_inj hi hk (SemLoc.dma.inj (congrArg Prod.snd h))).symm)]; rfl) (fun h => absurd hi h),
    owed_each (fun e => recvCell e i) (fun a b h => dev_of_cell h) N c]
  rfl

theorem launch_at (g : GSem nD τ sig) {n : ℕ} (h : (∑ d : Dev nD, debt d 1 1 g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

theorem creds (c : Dev nD) : (Pipeline.launchCred O₀ c : sProp 𝕄)
    ⊢ iprop(cred (tallyAt (barCell c) () 15) ∗ bigSep (Finset.Ico 1 16) (fun i => cred (tallyAt (recvCell c i) () N))) := by
  unfold Pipeline.launchCred
  rw [bigSep_univ_at _ (SemLoc.reg barS), launch_at (barCell c) (owed_bar c)]
  refine sep_mono_right ?_
  rw [show bigSep (Finset.Ico 1 16) (fun i => cred (tallyAt (recvCell c i) () N))
      = bigSep ((Finset.Ico 1 16).image fun i => SemLoc.dma (recvS i)) (fun s => (cred (tallyOn ((c : Thread nD τ), s) (launchCredit (Pipeline.owing O₀) 0 ((c : Thread nD τ), s))) : sProp 𝕄)) by
    rw [bigSep_image_of_injOn (fun i hi j hj e => recvS_inj (Finset.mem_coe.mp hi) (Finset.mem_coe.mp hj) (SemLoc.dma.inj e))]
    exact bigSep_congr fun i hi => by rw [launch_at (recvCell c i) (owed_recv c hi)]]
  refine bigSep_subset fun s hs => ?_
  obtain ⟨i, -, rfl⟩ := Finset.mem_image.mp hs
  exact Finset.mem_erase.mpr ⟨dma_ne_reg _, Finset.mem_univ _⟩

end Cert.KernelIdealProof

end
-- ==== Proof.Launch.lean ====
/-
The launch of the sixteen devices, and what every execution ends with.
-/
module

public import proofs.«01_k».proof.Proof.Deal
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## The sides of the launch -/

theorem into_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest (Ix := Unit) (Name := ℕ) (U := UU) (Lvl := ℕ) cfg0.spec c (fun b => m ((c : Thread nD τ).loc b)) : sProp 𝕄) = _ from
    unscopedRest0_eq c _]
  iintro ⟨⟨HW, HY⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HW]; · iexact HW
    iexists _; iexact HY
  · iempintro

theorem into_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = St m c 0 from rfl, scratch_eq]
  iintro ⟨Hs, -, Hr⟩
  iapply (enter m c)
  isplitl [Hs] <;> iassumption

theorem from_last (c : Dev nD) :
    (dats m ρ 0 c).Φ (Fin.last cfg0.N) ⊢ iprop(final m c ∗ Pipeline.ownSems0 osem c ∗ Pipeline.scopedRest cfg0.spec c) := by
  rw [show (dats m ρ 0 c).Φ (Fin.last cfg0.N) = St m c 16 from congrArg (St m c) N_0, scratch_eq]
  exact leave m c

theorem waits (c : Dev nD) : (levAts L lv : sProp 𝕄) ⊢ Pipeline.cellsWaits cfgs (dats m ρ) () 0 c :=
  Pipeline.cellsWaits_intro cfgs (dats m ρ) () 0 c fun w s t => by
    rw [show (dats m ρ 0 c).owed t = owedAt c t.val from rfl]
    have hq : (((cfg0.win w).sem s).val) ≤ 30 := by fin_cases w; fin_cases s <;> decide
    by_cases h : t.val = 0
    · rw [show owedAt c t.val = debt c 1 1 from if_pos h]
      exact mayWait_low c _ hq le_rfl
    · rw [owedAt_later c h, ← debt_none c]
      exact mayWait_low c _ hq (by decide)

/-! ## The run -/

/-- What a device's arrays hold at the end. -/
def Done (c : Dev nD) (s : MemSt nD τ sig (Elt F)) : Prop :=
  (∀ sm : SemLoc sig, sm.isScoped .tc = false → s.sem ((c.tc : Thread nD τ), sm) = 0) ∧ s.mem (wL c) = W m c ∧ s.mem (yL c) = oC2 m c

theorem read_done (c : Dev nD) (s' : Phys nD τ sig (Elt F)) :
    iprop(final m c ∗ emp ∗ SI s') ⊢ (|={Set.univ}=> iprop(⌜Done m c s'.mem⌝ ∗ SI s') : sProp 𝕄) := by
  unfold final
  rw [← unscopedSems0_eq]
  iintro ⟨⟨HB, HW, HY⟩, -, HSI⟩
  icombine HSI HW gives %h1
  icombine HSI HY gives %h2
  imod (Pipeline.unscopedSems0_read (X := unscopedSems0 c) (c := c) fupd_intro s') $$ [HB HSI] with ⟨%h3, HSI⟩
  · isplitl [HB] <;> iassumption
  imodintro
  isplitr; · ipureintro; exact ⟨h3, Buf.eq_of_forall_mem_univ h1, Buf.eq_of_forall_mem_univ h2⟩
  iexact HSI

/-- From any memory with zero counters: every execution on the sixteen devices ends, each device's output then holding
    the product of its rows by the weights as the kernel adds it up, its arguments as they were, every counter at zero. -/
theorem run_main : θ_run defs (onTc (τ := τ) (main (F := F))) ⟨m, fun _ => 0, ρ⟩ (fun r =>
    (∀ c : Dev nD, r.2.mem (yL c) = oC2 m c ∧ r.2.mem ((c : Thread nD τ).loc main_arg0) = m ((c : Thread nD τ).loc main_arg0) ∧ r.2.mem (wL c) = m (wL c))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0)
    (hshare := fun c w => by unfold Dat.share; split <;> rfl)
    (hdistinct := winFacts0.arr_inj)
    (O₀ := O₀) (howed₀ := fun _ => rfl) (howedN := fun c => owedAt_later c (show cfg0.N ≠ 0 by decide))
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ [HX] with HG
      · iexact HX
      imodintro
      isplitl [HP] <;> iassumption)
    (hglob := glob m)
    (hA := fun _ _ => rfl) (hpf := fun _ k => k.elim0)
    (X := start m) (Y := final m) (Z := fun _ => iprop(emp))
    (hX := into_start m ρ) (hin := into_first m ρ) (hout := from_last m ρ)
    (QY := Done m) (hY := read_done m)
    (hQ := fun _ h hs => ⟨fun c => ⟨(h c).2.2.2.2, ((h c).1 (0 : Fin 1)).trans ((dats (F := F) m ρ 0 c).arrAt_in (0 : Fin 1) rfl _), (h c).2.2.2.1⟩,
      sem_eq_zero hs fun c => (h c).2.2.1⟩)

end Cert.KernelIdealProof

end
-- ==== Proof.Value.lean ====
/-
At exact arithmetic: what a device's output holds is its rows of the product of the whole arrays.
-/
module

public import proofs.«01_k».proof.Proof.Common
public import Idealize.ShloMosaic.Lib.MatmulPlain
public import Idealize.ShloMosaic.Lib.Layout
public import Idealize.ShloMosaic.Lib.IdealHost
public import Idealize.ShloMosaic.Lib.ValueIdx
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.ValueIdx (constant_apply)

variable (mi : (ℓ : Loc nD τ sig) → Buf (Elt Ideal) ℓ)

/-! ## A tile as a sum -/

theorem chunk_at (c : Dev nD) (ch : ℕ) (k : Fin 2048) (n : Fin 1024) :
    (shapeCast S2048x1024 (wc mi c ch) shapeCasts_S1x2048x1024_S2048x1024 : FVec Ideal S2048x1024 .bf16) (ValueIdx.ix2 k n)
      = wat mi c (wrow c ch (k.val / 256) * 256 + k.val % 256) ((ch % 8) * 1024 + n.val) :=
  shapeCast_dropUnit_apply ![2048, 1024] (wc mi c ch) shapeCasts_S1x2048x1024_S2048x1024 (ValueIdx.ix2 k n)

/-- One term of the product: position `kk` of the contraction, in the order the blocks come. -/
def term (c : Dev nD) (r n kk : ℕ) : EReal :=
  xat mi (dev c (perm (kk / 256))) (c.val * 256 + r) (kk % 256) * wat mi c ((c.val + perm (kk / 256)) % 16 * 256 + kk % 256) n

theorem half_at (c : Dev nD) (g t : ℕ) (hg : g < 2) (ht : t < 8) (r : Fin 256) (n : Fin 1024) :
    k0_pay1 (xh mi c g) (wc mi c (8 * g + t)) (ValueIdx.ix2 r n) = ∑ k ∈ Finset.range 2048, term mi c r.val (t * 1024 + n.val) (2048 * g + k) := by
  have h0 : k0_pay1 (xh mi c g) (wc mi c (8 * g + t)) (ValueIdx.ix2 r n)
      = FloatOps.matmul (DotDims.plain 256 2048 1024) none (xh mi c g)
          (shapeCast S2048x1024 (wc mi c (8 * g + t)) shapeCasts_S1x2048x1024_S2048x1024 : FVec Ideal S2048x1024 .bf16) (constant S256x1024 .f32 0x00000000#32) (ValueIdx.ix2 r n) := rfl
  rw [h0, Ideal.matmul_plain_apply, constant_apply, Ideal.ofBits_zero_f32, zero_add, Finset.sum_range]
  refine Finset.sum_congr rfl fun k _ => ?_
  have hk := k.isLt
  rw [chunk_at]
  have e1 : (xh mi c g (ValueIdx.ix2 r k) : EReal) = xat mi (dev c (perm ((2048 * g + k.val) / 256))) (c.val * 256 + r.val) ((2048 * g + k.val) % 256) := by
    have e : (Fin.ofNat 4096 (g * 2048 + k.val)).val = 2048 * g + k.val := by rw [Fin.val_ofNat]; omega
    show xat mi (dev c (perm ((Fin.ofNat 4096 (g * 2048 + k.val)).val / 256))) (c.val * 256 + r.val) ((Fin.ofNat 4096 (g * 2048 + k.val)).val % 256) = _
    rw [e]
  have e2 : wrow c (8 * g + t) (k.val / 256) = (c.val + perm ((2048 * g + k.val) / 256)) % 16 := by
    unfold wrow
    rw [show 8 * ((8 * g + t) / 8) + k.val / 256 = (2048 * g + k.val) / 256 by omega]
  rw [e1, e2, show (8 * g + t) % 8 = t by omega, show k.val % 256 = (2048 * g + k.val) % 256 by omega]
  rfl

/-- An entry of the output, both halves together. -/
theorem out_at (c : Dev nD) (r : Fin 256) (n : Fin 8192) : oC2 mi c (ValueIdx.ix2 r n) = ∑ kk ∈ Finset.range 4096, term mi c r.val n.val kk := by
  have hn := n.isLt
  have ht : n.val / 1024 < 8 := by omega
  have e1 : oC2 mi c (ValueIdx.ix2 r n) = k0_pay1 (xh mi c 0) (wc mi c (8 * 0 + n.val / 1024)) (ValueIdx.ix2 r (Fin.ofNat 1024 n.val))
      + k0_pay1 (xh mi c 1) (wc mi c (8 * 1 + n.val / 1024)) (ValueIdx.ix2 r (Fin.ofNat 1024 n.val)) := by
    show tile2 mi c (n.val / 1024) (ValueIdx.ix2 r (Fin.ofNat 1024 n.val)) = _
    unfold tile2 tile1 k0_pay3 k0_pay2
    dsimp only
    rw [shapeCast_self, shapeCast_self, Nat.mul_zero, Nat.zero_add, Nat.mul_one, Nat.add_comm 8]
    rfl
  rw [e1, half_at mi c 0 _ (by decide) ht, half_at mi c 1 _ (by decide) ht, show (4096 : ℕ) = 2048 + 2048 from rfl, Finset.sum_range_add,
    show (Fin.ofNat 1024 n.val).val = n.val % 1024 from rfl, show n.val / 1024 * 1024 + n.val % 1024 = n.val by omega]
  simp only [Nat.mul_zero, Nat.zero_add, Nat.mul_one]

/-! ## The blocks put back in order -/

theorem pinv_lt16 : ∀ d ∈ Finset.range 16, pinv d < 16 := by decide
theorem pinv_perm16 : ∀ i ∈ Finset.range 16, pinv (perm i) = i := by decide
theorem perm_pinv16 : ∀ d ∈ Finset.range 16, perm (pinv d) = d := by decide

/-- Summing over the blocks in the order device `c` takes them is summing over them in order. -/
theorem reorder (c : Dev nD) (f : ℕ → EReal) :
    (∑ kk ∈ Finset.range 4096, f ((c.val + perm (kk / 256)) % 16 * 256 + kk % 256)) = ∑ q ∈ Finset.range 4096, f q := by
  have hc : c.val < 16 := c.isLt
  refine Finset.sum_nbij' (fun kk => (c.val + perm (kk / 256)) % 16 * 256 + kk % 256) (fun q => pinv ((q / 256 + 16 - c.val) % 16) * 256 + q % 256) ?_ ?_ ?_ ?_ ?_
  · intro kk _
    rw [Finset.mem_range]; omega
  · intro q _
    have := pinv_lt16 ((q / 256 + 16 - c.val) % 16) (Finset.mem_range.mpr (Nat.mod_lt _ (by decide)))
    rw [Finset.mem_range]; omega
  · intro kk hk
    rw [Finset.mem_range] at hk
    have hp := perm_lt16 (kk / 256)
    have e := pinv_perm16 (kk / 256) (Finset.mem_range.mpr (by omega))
    rw [show (((c.val + perm (kk / 256)) % 16 * 256 + kk % 256) / 256 + 16 - c.val) % 16 = perm (kk / 256) by omega, e]
    omega
  · intro q hq
    rw [Finset.mem_range] at hq
    have e := perm_pinv16 ((q / 256 + 16 - c.val) % 16) (Finset.mem_range.mpr (Nat.mod_lt _ (by decide)))
    rw [show (pinv ((q / 256 + 16 - c.val) % 16) * 256 + q % 256) / 256 = pinv ((q / 256 + 16 - c.val) % 16) by omega, e]
    omega
  · intro kk _; rfl

/-! ## Against the whole arrays -/

variable (A : (⟨2, ![4096, 4096]⟩ : Shape).Idx → EReal)

/-- A device's activations are its block of columns of the whole. -/
theorem xat_whole (hA : ∀ d : Dev nD, X mi d = Layout.block ⟨2, ![4096, 256]⟩ ⟨2, ![4096, 4096]⟩ 1 16 d A) (d : Dev nD) (r k : ℕ) (hr : r < 4096) (hk : k < 256) :
    xat mi d r k = A (ValueIdx.ix2 (Fin.ofNat 4096 r) (Fin.ofNat 4096 (d.val * 256 + k))) := by
  have hd : d.val < 16 := d.isLt
  unfold xat
  rw [hA d, Layout.block_apply]
  congr 1
  funext a
  refine Fin.ext ?_
  fin_cases a
  · exact (Layout.idx_cols_val _ d _).1
  · refine (Layout.idx_cols_val _ d _).2.trans ?_
    show d.val * 256 + k % 256 = (d.val * 256 + k) % 4096
    omega

/-- What device `c` ends with is its rows of the product of the whole arrays. -/
theorem out_whole (hA : ∀ d : Dev nD, X mi d = Layout.block ⟨2, ![4096, 256]⟩ ⟨2, ![4096, 4096]⟩ 1 16 d A) (c : Dev nD) (r : Fin 256) (n : Fin 8192) :
    oC2 mi c (ValueIdx.ix2 r n) = ∑ q : Fin 4096, A (ValueIdx.ix2 (Fin.ofNat 4096 (c.val * 256 + r.val)) q) * W mi c (ValueIdx.ix2 q n) := by
  have hc : c.val < 16 := c.isLt
  have hr := r.isLt
  have e : (∑ q : Fin 4096, A (ValueIdx.ix2 (Fin.ofNat 4096 (c.val * 256 + r.val)) q) * W mi c (ValueIdx.ix2 q n) : EReal)
      = ∑ q ∈ Finset.range 4096, A (ValueIdx.ix2 (Fin.ofNat 4096 (c.val * 256 + r.val)) (Fin.ofNat 4096 q)) * W mi c (ValueIdx.ix2 (Fin.ofNat 4096 q) n) := by
    rw [Finset.sum_range]
    refine Finset.sum_congr rfl fun q _ => ?_
    rw [show Fin.ofNat 4096 q.val = q from Fin.ext (Nat.mod_eq_of_lt q.isLt)]
  rw [e, out_at]
  refine (Finset.sum_congr rfl fun kk _ => ?_).trans
    (reorder c fun q => A (ValueIdx.ix2 (Fin.ofNat 4096 (c.val * 256 + r.val)) (Fin.ofNat 4096 q)) * W mi c (ValueIdx.ix2 (Fin.ofNat 4096 q) n))
  unfold term
  rw [xat_whole mi A hA _ _ _ (by omega) (Nat.mod_lt _ (by decide)), dev_val]
  unfold wat
  rw [show (Fin.ofNat 8192 n.val) = n from Fin.ext (Nat.mod_eq_of_lt n.isLt)]

end Cert.KernelIdealProof

end
-- ==== Proof.Reference.lean ====
/-
The reference at exact arithmetic: what its run leaves, read entry by entry.
-/
module

public import proofs.«01_k».proof.Proof.Gen.ReferenceIdeal.Run
public import Idealize.ShloMosaic.Lib.StackMember

@[expose] public section

noncomputable section

namespace Cert.ReferenceIdealProof

open Cert.ReferenceIdeal Cert.ReferenceIdeal.Gen

open Idealize.ShloMosaic

/-- The reference's result. -/
def out (A : FVec Ideal S4096x4096 .bf16) (B : FVec Ideal S4096x8192 .bf16) : FVec Ideal S4096x8192 .f32 :=
  extf .f32 (truncf .bf16 (Host.dotGeneral dot_S4096x4096_S4096x8192_S4096x8192_1_0_0_1_n_n none A B) bitsLt_bf16_f32) bitsLt_bf16_f32

/-- Each entry of it is the sum a matrix product names. -/
theorem out_at (A : FVec Ideal S4096x4096 .bf16) (B : FVec Ideal S4096x8192 .bf16) (r : Fin 4096) (n : Fin 8192) :
    out A B (ValueIdx.ix2 r n) = ∑ q : Fin 4096, A (ValueIdx.ix2 r q) * B (ValueIdx.ix2 q n) := by
  show Host.dotGeneral (DotDims.plain 4096 4096 8192) none A B (ValueIdx.ix2 r n) = _
  exact StackMember.dotGeneral_plain_apply none A B r n

end Cert.ReferenceIdealProof

end
-- ==== Proof.lean ====
/-
The five claims, from the kernel's run at each float instance, the reference's run, and the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import proofs.«01_k».proof.Proof.Bits.Launch
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).2, h.2⟩) (Cert.KernelProof.run_main (F := Bits) m ρ)

theorem frame_kernel_ideal : Cert.quiescent_KernelIdeal := fun m ρ _ =>
  (θ_run Cert.KernelIdeal.defs _ _).mono (fun _ h => ⟨fun c => (h.1 c).2, h.2⟩) (Cert.KernelIdealProof.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A device's output is its rows of the reference's. -/
theorem rows_of (m : (ℓ : Loc Cert.KernelIdeal.nD Cert.KernelIdeal.τ Cert.KernelIdeal.sig) → Buf (Elt Ideal) ℓ)
    (A : FVec Ideal Cert.ReferenceIdeal.S4096x4096 .bf16) (B : FVec Ideal Cert.ReferenceIdeal.S4096x8192 .bf16)
    (hA : ∀ d, Cert.KernelIdealProof.X m d = Layout.block ⟨2, ![4096, 256]⟩ ⟨2, ![4096, 4096]⟩ 1 16 d A)
    (c : Dev Cert.KernelIdeal.nD) (hB : Cert.KernelIdealProof.W m c = B) :
    Cert.KernelIdealProof.oC2 m c = Layout.block ⟨2, ![256, 8192]⟩ ⟨2, ![4096, 8192]⟩ 0 16 c (Cert.ReferenceIdealProof.out A B) := by
  have hc : c.val < 16 := c.isLt
  funext y
  obtain ⟨r, n, rfl⟩ : ∃ (r : Fin 256) (n : Fin 8192), y = ValueIdx.ix2 r n :=
    ⟨y 0, y 1, by funext a; fin_cases a <;> rfl⟩
  have hr : r.val < 256 := r.isLt
  have e : ∀ h : Layout.Tiles ⟨2, ![256, 8192]⟩ ⟨2, ![4096, 8192]⟩ 0 16,
      h.idx c (ValueIdx.ix2 r n) = ValueIdx.ix2 (Fin.ofNat 4096 (c.val * 256 + r.val)) n := fun h => by
    funext a
    refine Fin.ext ?_
    fin_cases a
    · refine (Layout.idx_rows_val h c (ValueIdx.ix2 r n)).1.trans ?_
      show c.val * 256 + r.val = (c.val * 256 + r.val) % 4096
      omega
    · exact (Layout.idx_rows_val h c (ValueIdx.ix2 r n)).2
  refine (Cert.KernelIdealProof.out_whole m A hA c r n).trans ?_
  rw [hB]
  refine (Cert.ReferenceIdealProof.out_at A B _ n).symm.trans ?_
  exact congrArg (Cert.ReferenceIdealProof.out A B) (e _).symm

theorem values : Cert.algebraic_KernelIdeal_ReferenceIdeal := fun m ρ m' ρ' _ hin =>
  ⟨Cert.ReferenceIdealProof.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (rows_of m _ _ (fun d => (hin d).1) c (hin c).2), (h.1 c).2⟩)
      (Cert.KernelIdealProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernel_ideal, frame_reference, trivial, values⟩

end Cert.Proof

end
